-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_log [hPre_zero_log : Cert.Pre_zero_log.Facts] (m : (ℓ : Loc Cert.KernelIdeal.nD Cert.KernelIdeal.τ Cert.KernelIdeal.sig) → Buf (Elt Ideal) ℓ) : Prop :=
  ∀ c : Dev Cert.KernelIdeal.nD,
    (Cert.Pre_zero_log.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_log [hPre_zero_log : Cert.Pre_zero_log.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_log.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_zero_log [hKernelIdeal : Cert.KernelIdeal.Facts] [hPre_zero_log : Cert.Pre_zero_log.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_log m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_zero_log [hReferenceIdeal : Cert.ReferenceIdeal.Facts] [hPre_zero_log : Cert.Pre_zero_log.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_log m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_zero_log [hKernelIdeal : Cert.KernelIdeal.Facts] [hReferenceIdeal : Cert.ReferenceIdeal.Facts] [hPre_zero_log : Cert.Pre_zero_log.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_log m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_zero_log : Cert.Pre_zero_log.Facts),
    quiescent_Kernel (hKernel := hKernel)
    ∧ quiescent_KernelIdeal (hKernelIdeal := hKernelIdeal)
    ∧ quiescent_KernelIdeal_pre_zero_log (hKernelIdeal := hKernelIdeal) (hPre_zero_log := hPre_zero_log)
    ∧ quiescent_ReferenceIdeal (hReferenceIdeal := hReferenceIdeal)
    ∧ quiescent_ReferenceIdeal_pre_zero_log (hReferenceIdeal := hReferenceIdeal) (hPre_zero_log := hPre_zero_log)
    ∧ preserves_Kernel_KernelIdeal
    ∧ algebraic_KernelIdeal_ReferenceIdeal_pre_zero_log (hKernelIdeal := hKernelIdeal) (hReferenceIdeal := hReferenceIdeal) (hPre_zero_log := hPre_zero_log)
-- ==== Pre_zero_log.lean ====
abbrev S2x1024x1024 : Shape := ⟨3, ![2, 1024, 1024]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel

variable [Facts]

def fn {F : FTy → Type} [FloatOps F] (main_arg0 : FVec F S2x1024x1024 .f32) (main_arg1 : FVec F S4096x1024 .f32) (main_arg2 : FVec F S2048x1x4 .f32) (main_arg3 : FVec F S2048 .f32) (main_arg4 : FVec F S96x2048 .f32) (main_arg5 : FVec F S2048x64 .f32) (main_arg6 : FVec F S2048 .f32) (main_arg7 : FVec F S2048x16 .f32) (main_arg8 : FVec F S2048 .f32) (main_arg9 : FVec F S1024x2048 .f32) : IVec S_ 1 :=
  let main_cst : FVec F S_ .f32 := constant S_ .f32 0x00000000#32
  let main_v0 : FVec F S2048x16 .f32 := broadcastInDim S2048x16 ![] bcast_S_S2048x16 main_cst
  let main_v1 : IVec S2048x16 1 := cmpf .oeq main_arg7 main_v0
  let main_c : IVec S_ 1 := constantI S_ 1 1#1
  let main_v2 : IVec S_ 1 := (fun x v => Host.reduce IntOp.andi x v reducesTo_S2048x16_S_d0_1 h_S_) main_v1 main_c
  main_v2
-- ==== Kernel.lean ====
abbrev S2x1024x1024 : Shape := ⟨3, ![2, 1024, 1024]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S2048x4 : Shape := ⟨2, ![2048, 4]⟩
abbrev S4x2048 : Shape := ⟨2, ![4, 2048]⟩
abbrev S1x2048 : Shape := ⟨2, ![1, 2048]⟩
abbrev S2x1024x2048 : Shape := ⟨3, ![2, 1024, 2048]⟩
abbrev S1x256x1024 : Shape := ⟨3, ![1, 256, 1024]⟩
abbrev S1x256x2048 : Shape := ⟨3, ![1, 256, 2048]⟩
abbrev S264x2048 : Shape := ⟨2, ![264, 2048]⟩
abbrev S8x2048 : Shape := ⟨2, ![8, 2048]⟩
abbrev S16x2048 : Shape := ⟨2, ![16, 2048]⟩
abbrev S256x2048 : Shape := ⟨2, ![256, 2048]⟩
abbrev S256x16x1 : Shape := ⟨3, ![256, 16, 1]⟩
abbrev S256x1024 : Shape := ⟨2, ![256, 1024]⟩
abbrev S2048x1024 : Shape := ⟨2, ![2048, 1024]⟩
abbrev S256x96 : Shape := ⟨2, ![256, 96]⟩
abbrev S256x64 : Shape := ⟨2, ![256, 64]⟩
abbrev S256x16 : Shape := ⟨2, ![256, 16]⟩
abbrev S1x16x1 : Shape := ⟨3, ![1, 16, 1]⟩
abbrev S16x1 : Shape := ⟨2, ![16, 1]⟩
abbrev S2048x2048 : Shape := ⟨2, ![2048, 2048]⟩
abbrev S512x2048 : Shape := ⟨2, ![512, 2048]⟩
abbrev S512x1024 : Shape := ⟨2, ![512, 1024]⟩

abbrev nBuf : Space → Nat
  | .hbm => 19
  | .vmem => 26
  | .smem => 0
  | _ => 0

abbrev bufTy : (tb : Table) → Fin (tcTables nBuf tb) → BufTy
  | .hbm, ⟨0, _⟩ => ⟨S2x1024x1024, .f32⟩
  | .hbm, ⟨1, _⟩ => ⟨S4096x1024, .f32⟩
  | .hbm, ⟨2, _⟩ => ⟨S2048x1x4, .f32⟩
  | .hbm, ⟨3, _⟩ => ⟨S2048, .f32⟩
  | .hbm, ⟨4, _⟩ => ⟨S96x2048, .f32⟩
  | .hbm, ⟨5, _⟩ => ⟨S2048x64, .f32⟩
  | .hbm, ⟨6, _⟩ => ⟨S2048, .f32⟩
  | .hbm, ⟨7, _⟩ => ⟨S2048x16, .f32⟩
  | .hbm, ⟨8, _⟩ => ⟨S2048, .f32⟩
  | .hbm, ⟨9, _⟩ => ⟨S1024x2048, .f32⟩
  | .hbm, ⟨10, _⟩ => ⟨S2048x4, .f32⟩
  | .hbm, ⟨11, _⟩ => ⟨S4x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S2x1024x2048, .f32⟩
  | .hbm, ⟨16, _⟩ => ⟨S2048x2048, .f32⟩
  | .hbm, ⟨17, _⟩ => ⟨S2048x1024, .f32⟩
  | .hbm, ⟨18, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S4096x1024, .f32⟩
  | .local _ .vmem, ⟨3, _⟩ => ⟨S4x2048, .f32⟩
  | .local _ .vmem, ⟨4, _⟩ => ⟨S1x2048, .f32⟩
  | .local _ .vmem, ⟨5, _⟩ => ⟨S96x2048, .f32⟩
  | .local _ .vmem, ⟨6, _⟩ => ⟨S2048x64, .f32⟩
  | .local _ .vmem, ⟨7, _⟩ => ⟨S1x2048, .f32⟩
  | .local _ .vmem, ⟨8, _⟩ => ⟨S1x2048, .f32⟩
  | .local _ .vmem, ⟨9, _⟩ => ⟨S1x256x2048, .f32⟩
  | .local _ .vmem, ⟨10, _⟩ => ⟨S1x256x2048, .f32⟩
  | .local _ .vmem, ⟨11, _⟩ => ⟨S264x2048, .f32⟩
  | .local _ .vmem, ⟨12, _⟩ => ⟨S8x2048, .f32⟩
  | .local _ .vmem, ⟨13, _⟩ => ⟨S16x2048, .f32⟩
  | .local _ .vmem, ⟨14, _⟩ => ⟨S256x2048, .f32⟩
  | .local _ .vmem, ⟨15, _⟩ => ⟨S256x2048, .f32⟩
  | .local _ .vmem, ⟨16, _⟩ => ⟨S256x16x1, .f32⟩
  | .local _ .vmem, ⟨17, _⟩ => ⟨S256x16x1, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S512x2048, .f32⟩
  | .local _ .vmem, ⟨22, _⟩ => ⟨S512x2048, .f32⟩
  | .local _ .vmem, ⟨23, _⟩ => ⟨S1024x2048, .f32⟩
  | .local _ .vmem, ⟨24, _⟩ => ⟨S512x1024, .f32⟩
  | .local _ .vmem, ⟨25, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_53 : BitVec 32 := 0#32
  let c256_i32 : BitVec 32 := 256#32
  let v103 : BitVec 32 := Scalar.addi c0_i32_53 c256_i32
  let c1_i32 : BitVec 32 := 1#32
  ⟨c0_i32_53, v103, c1_i32⟩
def k0_off1 (k0_t1 : Fin k0_t1_loop.trips) : Fin 2 → Nat :=
  let c0_i32_53 : BitVec 32 := 0#32
  let c1_i32 : BitVec 32 := 1#32
  let arg21 : BitVec 32 := Scf.iv c0_i32_53 c1_i32 k0_t1
  let v122 : Index := Scalar.indexCast arg21
  let c0_68 : Index := 0#32
  ![v122.toNat, 0]
def k0_off2 (k0_t1 : Fin k0_t1_loop.trips) : Fin 3 → Nat :=
  let c0_i32_53 : BitVec 32 := 0#32
  let c1_i32 : BitVec 32 := 1#32
  let arg21 : BitVec 32 := Scf.iv c0_i32_53 c1_i32 k0_t1
  let v128 : Index := Scalar.indexCast arg21
  let c0_70 : Index := 0#32
  let c0_71 : Index := 0#32
  ![v128.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2x1024x1024 : Shape := ⟨3, ![2, 1024, 1024]⟩
abbrev S4096x1024 : Shape := ⟨2, ![4096, 1024]⟩
abbrev S2048x1x4 : Shape := ⟨3, ![2048, 1, 4]⟩
abbrev S2048 : Shape := ⟨1, ![2048]⟩
abbrev S96x2048 : Shape := ⟨2, ![96, 2048]⟩
abbrev S2048x64 : Shape := ⟨2, ![2048, 64]⟩
abbrev S2048x16 : Shape := ⟨2, ![2048, 16]⟩
abbrev S1024x2048 : Shape := ⟨2, ![1024, 2048]⟩
abbrev S2x1024x4096 : Shape := ⟨3, ![2, 1024, 4096]⟩
abbrev S2x1024x2048 : Shape := ⟨3, ![2, 1024, 2048]⟩
abbrev S_ : Shape := ⟨0, ![]⟩
abbrev S2x1027x2048 : Shape := ⟨3, ![2, 1027, 2048]⟩
abbrev S2048x1x1 : Shape := ⟨3, ![2048, 1, 1]⟩
abbrev S1x1x2048 : Shape := ⟨3, ![1, 1, 2048]⟩
abbrev S2x1024x96 : Shape := ⟨3, ![2, 1024, 96]⟩
abbrev S2x1024x64 : Shape := ⟨3, ![2, 1024, 64]⟩
abbrev S2x1024x16 : Shape := ⟨3, ![2, 1024, 16]⟩
abbrev S2x1024x2048x1 : Shape := ⟨4, ![2, 1024, 2048, 1]⟩
abbrev S1x1x2048x16 : Shape := ⟨4, ![1, 1, 2048, 16]⟩
abbrev S2x1024x2048x16 : Shape := ⟨4, ![2, 1024, 2048, 16]⟩
abbrev S2x1024x1x16 : Shape := ⟨4, ![2, 1024, 1, 16]⟩
abbrev S2x2048x16 : Shape := ⟨3, ![2, 2048, 16]⟩
abbrev S1024x2x2048x16 : Shape := ⟨4, ![1024, 2, 2048, 16]⟩
abbrev S1x2x2048x16 : Shape := ⟨4, ![1, 2, 2048, 16]⟩

abbrev nBuf : Space → Nat
  | .hbm => 179
  | .vmem => 0
  | .smem => 0
  | _ => 0

abbrev hbmTy0_0 (i : Nat) : BufTy := match i % 128 with
  | 0 => ⟨S2x1024x1024, .f32⟩
  | 1 => ⟨S4096x1024, .f32⟩
  | 2 => ⟨S2048x1x4, .f32⟩
  | 3 => ⟨S2048, .f32⟩
  | 4 => ⟨S96x2048, .f32⟩
  | 5 => ⟨S2048x64, .f32⟩
  | 6 => ⟨S2048, .f32⟩
  | 7 => ⟨S2048x16, .f32⟩
  | 8 => ⟨S2048, .f32⟩
  | 9 => ⟨S1024x2048, .f32⟩
  | 10 => ⟨S2x1024x4096, .f32⟩
  | 11 => ⟨S2x1024x2048, .f32⟩
  | 12 => ⟨S2x1024x2048, .f32⟩
  | 13 => ⟨S_, .i32⟩
  | 14 => ⟨S_, .f32⟩
  | 15 => ⟨S2x1027x2048, .f32⟩
  | 16 => ⟨S2048x1x1, .f32⟩
  | 17 => ⟨S2048, .f32⟩
  | 18 => ⟨S2x1024x2048, .f32⟩
  | 19 => ⟨S1x1x2048, .f32⟩
  | 20 => ⟨S2x1024x2048, .f32⟩
  | 21 => ⟨S2x1024x2048, .f32⟩
  | 22 => ⟨S_, .f32⟩
  | 23 => ⟨S2x1024x2048, .f32⟩
  | 24 => ⟨S2x1024x2048, .f32⟩
  | 25 => ⟨S2048x1x1, .f32⟩
  | 26 => ⟨S2048, .f32⟩
  | 27 => ⟨S2x1024x2048, .f32⟩
  | 28 => ⟨S1x1x2048, .f32⟩
  | 29 => ⟨S2x1024x2048, .f32⟩
  | 30 => ⟨S2x1024x2048, .f32⟩
  | 31 => ⟨S2x1024x2048, .f32⟩
  | 32 => ⟨S2048x1x1, .f32⟩
  | 33 => ⟨S2048, .f32⟩
  | 34 => ⟨S2x1024x2048, .f32⟩
  | 35 => ⟨S1x1x2048, .f32⟩
  | 36 => ⟨S2x1024x2048, .f32⟩
  | 37 => ⟨S2x1024x2048, .f32⟩
  | 38 => ⟨S2x1024x2048, .f32⟩
  | 39 => ⟨S2048x1x1, .f32⟩
  | 40 => ⟨S2048, .f32⟩
  | 41 => ⟨S2x1024x2048, .f32⟩
  | 42 => ⟨S1x1x2048, .f32⟩
  | 43 => ⟨S2x1024x2048, .f32⟩
  | 44 => ⟨S2x1024x2048, .f32⟩
  | 45 => ⟨S2x1024x2048, .f32⟩
  | 46 => ⟨S1x1x2048, .f32⟩
  | 47 => ⟨S2x1024x2048, .f32⟩
  | 48 => ⟨S2x1024x2048, .f32⟩
  | 49 => ⟨S2x1024x2048, .f32⟩
  | 50 => ⟨S2x1024x2048, .f32⟩
  | 51 => ⟨S_, .f32⟩
  | 52 => ⟨S2x1024x2048, .f32⟩
  | 53 => ⟨S2x1024x2048, .f32⟩
  | 54 => ⟨S_, .f32⟩
  | 55 => ⟨S2x1024x2048, .f32⟩
  | 56 => ⟨S2x1024x2048, .f32⟩
  | 57 => ⟨S2x1024x2048, .f32⟩
  | 58 => ⟨S2x1024x96, .f32⟩
  | 59 => ⟨S2x1024x64, .f32⟩
  | 60 => ⟨S2x1024x16, .f32⟩
  | 61 => ⟨S2x1024x16, .f32⟩
  | 62 => ⟨S2x1024x2048, .f32⟩
  | 63 => ⟨S1x1x2048, .f32⟩
  | 64 => ⟨S2x1024x2048, .f32⟩
  | 65 => ⟨S2x1024x2048, .f32⟩
  | 66 => ⟨S2048x16, .f32⟩
  | 67 => ⟨S2048x16, .f32⟩
  | 68 => ⟨S_, .f32⟩
  | 69 => ⟨S2x1024x2048, .f32⟩
  | 70 => ⟨S2x1024x2048, .f32⟩
  | 71 => ⟨S2x1024x2048, .f32⟩
  | 72 => ⟨S2x1024x2048, .f32⟩
  | 73 => ⟨S2x1024x2048, .i1⟩
  | 74 => ⟨S2x1024x2048, .f32⟩
  | 75 => ⟨S2x1024x2048, .f32⟩
  | 76 => ⟨S2x1024x2048, .f32⟩
  | 77 => ⟨S2x1024x2048, .f32⟩
  | 78 => ⟨S2x1024x2048, .f32⟩
  | 79 => ⟨S2x1024x2048, .f32⟩
  | 80 => ⟨S2x1024x2048, .f32⟩
  | 81 => ⟨S2x1024x2048, .f32⟩
  | 82 => ⟨S_, .f32⟩
  | 83 => ⟨S2x1024x2048, .f32⟩
  | 84 => ⟨S2x1024x2048, .f32⟩
  | 85 => ⟨S_, .f32⟩
  | 86 => ⟨S2x1024x2048, .f32⟩
  | 87 => ⟨S2x1024x2048, .f32⟩
  | 88 => ⟨S2x1024x2048x1, .f32⟩
  | 89 => ⟨S1x1x2048x16, .f32⟩
  | 90 => ⟨S2x1024x2048x16, .f32⟩
  | 91 => ⟨S2x1024x2048x16, .f32⟩
  | 92 => ⟨S2x1024x2048x16, .f32⟩
  | 93 => ⟨S2x1024x2048x16, .f32⟩
  | 94 => ⟨S_, .f32⟩
  | 95 => ⟨S2x1024x2048x16, .f32⟩
  | 96 => ⟨S2x1024x2048x16, .f32⟩
  | 97 => ⟨S2x1024x2048x1, .f32⟩
  | 98 => ⟨S2x1024x1x16, .f32⟩
  | 99 => ⟨S2x1024x2048x16, .f32⟩
  | 100 => ⟨S2x1024x2048x16, .f32⟩
  | 101 => ⟨S2x1024x2048x16, .f32⟩
  | 102 => ⟨S2x1024x2048x1, .f32⟩
  | 103 => ⟨S2x1024x2048x16, .f32⟩
  | 104 => ⟨S2x1024x2048x16, .f32⟩
  | 105 => ⟨S_, .f32⟩
  | 106 => ⟨S_, .f32⟩
  | 107 => ⟨S_, .f32⟩
  | 108 => ⟨S2x1024x2048x16, .f32⟩
  | 109 => ⟨S2x1024x2048x16, .f32⟩
  | 110 => ⟨S_, .f32⟩
  | 111 => ⟨S2x1024x2048x16, .f32⟩
  | 112 => ⟨S2x1024x2048x16, .f32⟩
  | 113 => ⟨S_, .f32⟩
  | 114 => ⟨S2x2048x16, .f32⟩
  | 115 => ⟨S1024x2x2048x16, .f32⟩
  | 116 => ⟨S1024x2x2048x16, .f32⟩
  | 117 => ⟨S_, .f32⟩
  | 118 => ⟨S1024x2x2048x16, .f32⟩
  | 119 => ⟨S_, .i32⟩
  | 120 => ⟨S1024x2x2048x16, .f32⟩
  | 121 => ⟨S1024x2x2048x16, .f32⟩
  | 122 => ⟨S_, .i32⟩
  | 123 => ⟨S2x2048x16, .f32⟩
  | 124 => ⟨S1024x2x2048x16, .f32⟩
  | 125 => ⟨S_, .i32⟩
  | 126 => ⟨S_, .i1⟩
  | 127 => ⟨S_, .i32⟩
  | _ => ⟨S2x1024x1024, .f32⟩

abbrev hbmTy0_1 (i : Nat) : BufTy := match i % 128 with
  | 0 => ⟨S_, .i32⟩
  | 1 => ⟨S_, .i32⟩
  | 2 => ⟨S1x2x2048x16, .f32⟩
  | 3 => ⟨S2x2048x16, .f32⟩
  | 4 => ⟨S_, .i32⟩
  | 5 => ⟨S_, .i32⟩
  | 6 => ⟨S_, .i32⟩
  | 7 => ⟨S1x2x2048x16, .f32⟩
  | 8 => ⟨S2x2048x16, .f32⟩
  | 9 => ⟨S2x2048x16, .f32⟩
  | 10 => ⟨S2x2048x16, .f32⟩
  | 11 => ⟨S_, .f32⟩
  | 12 => ⟨S_, .f32⟩
  | 13 => ⟨S_, .f32⟩
  | 14 => ⟨S2x2048x16, .f32⟩
  | 15 => ⟨S2x2048x16, .f32⟩
  | 16 => ⟨S_, .f32⟩
  | 17 => ⟨S2x2048x16, .f32⟩
  | 18 => ⟨S2x2048x16, .f32⟩
  | 19 => ⟨S1x2x2048x16, .f32⟩
  | 20 => ⟨S_, .i32⟩
  | 21 => ⟨S_, .i32⟩
  | 22 => ⟨S_, .i32⟩
  | 23 => ⟨S1024x2x2048x16, .f32⟩
  | 24 => ⟨S_, .i32⟩
  | 25 => ⟨S_, .i32⟩
  | 26 => ⟨S2x1024x2048x16, .f32⟩
  | 27 => ⟨S2x1024x2048, .f32⟩
  | 28 => ⟨S1x1x2048, .f32⟩
  | 29 => ⟨S2x1024x2048, .f32⟩
  | 30 => ⟨S2x1024x2048, .f32⟩
  | 31 => ⟨S2x1024x2048, .f32⟩
  | 32 => ⟨S_, .f32⟩
  | 33 => ⟨S_, .f32⟩
  | 34 => ⟨S_, .f32⟩
  | 35 => ⟨S2x1024x2048, .f32⟩
  | 36 => ⟨S2x1024x2048, .f32⟩
  | 37 => ⟨S_, .f32⟩
  | 38 => ⟨S2x1024x2048, .f32⟩
  | 39 => ⟨S2x1024x2048, .f32⟩
  | 40 => ⟨S2x1024x2048, .f32⟩
  | 41 => ⟨S2x1024x2048, .f32⟩
  | 42 => ⟨S_, .f32⟩
  | 43 => ⟨S2x1024x2048, .f32⟩
  | 44 => ⟨S2x1024x2048, .f32⟩
  | 45 => ⟨S_, .f32⟩
  | 46 => ⟨S2x1024x2048, .f32⟩
  | 47 => ⟨S2x1024x2048, .f32⟩
  | 48 => ⟨S2x1024x2048, .f32⟩
  | 49 => ⟨S2x1024x2048, .f32⟩
  | 50 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_cst_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_v53 : Ref sig .tc := ⟨.hbm, 81, rfl⟩
abbrev main_cst_2 : Ref sig .tc := ⟨.hbm, 82, rfl⟩
abbrev main_v54 : Ref sig .tc := ⟨.hbm, 83, rfl⟩
abbrev main_v55 : Ref sig .tc := ⟨.hbm, 84, rfl⟩
abbrev main_cst_3 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_4 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_5 : Ref sig .tc := ⟨.hbm, 105, rfl⟩
abbrev main_cst_6 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v74 : Ref sig .tc := ⟨.hbm, 112, rfl⟩
abbrev main_cst_7 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_8 : Ref sig .tc := ⟨.hbm, 117, rfl⟩
abbrev main_v78 : Ref sig .tc := ⟨.hbm, 118, rfl⟩
abbrev main_c_9 : Ref sig .tc := ⟨.hbm, 119, rfl⟩
abbrev main_v79_0 : Ref sig .tc := ⟨.hbm, 120, rfl⟩
abbrev main_v79_1 : Ref sig .tc := ⟨.hbm, 121, rfl⟩
abbrev main_v79_2 : Ref sig .tc := ⟨.hbm, 122, rfl⟩
abbrev main_v79_3 : Ref sig .tc := ⟨.hbm, 123, rfl⟩
abbrev main_v79_4 : Ref sig .tc := ⟨.hbm, 124, rfl⟩
abbrev main_while0c_c_18 : Ref sig .tc := ⟨.hbm, 125, rfl⟩
abbrev main_while0c_v96 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_call3_c_1 : Ref sig .tc := ⟨.hbm, 129, rfl⟩
abbrev main_while0b_call3_v0 : Ref sig .tc := ⟨.hbm, 130, rfl⟩
abbrev main_while0b_v96 : Ref sig .tc := ⟨.hbm, 131, rfl⟩
abbrev main_while0b_call4_c : Ref sig .tc := ⟨.hbm, 132, rfl⟩
abbrev main_while0b_call4_c_0 : Ref sig .tc := ⟨.hbm, 133, rfl⟩
abbrev main_while0b_call4_c_1 : Ref sig .tc := ⟨.hbm, 134, rfl⟩
abbrev main_while0b_call4_v0 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_cst_18 : Ref sig .tc := ⟨.hbm, 139, rfl⟩
abbrev main_while0b_cst_19 : Ref sig .tc := ⟨.hbm, 140, rfl⟩
abbrev main_while0b_call5_v0 : Ref sig .tc := ⟨.hbm, 141, rfl⟩
abbrev main_while0b_call5_v1 : Ref sig .tc := ⟨.hbm, 142, rfl⟩
abbrev main_while0b_call5_v2 : Ref sig .tc := ⟨.hbm, 143, rfl⟩
abbrev main_while0b_call5_v3 : Ref sig .tc := ⟨.hbm, 144, rfl⟩
abbrev main_while0b_call5_v4 : Ref sig .tc := ⟨.hbm, 145, rfl⟩
abbrev main_while0b_v100 : Ref sig .tc := ⟨.hbm, 146, rfl⟩
abbrev main_while0b_call6_v0 : Ref sig .tc := ⟨.hbm, 147, rfl⟩
abbrev main_while0b_call6_c : Ref sig .tc := ⟨.hbm, 148, rfl⟩
abbrev main_while0b_call6_c_0 : Ref sig .tc := ⟨.hbm, 149, rfl⟩
abbrev main_while0b_call6_c_1 : Ref sig .tc := ⟨.hbm, 150, rfl⟩
abbrev main_while0b_v101 : Ref sig .tc := ⟨.hbm, 151, rfl⟩
abbrev main_while0b_c_20 : Ref sig .tc := ⟨.hbm, 152, rfl⟩
abbrev main_while0b_v102 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_cst_10 : Ref sig .tc := ⟨.hbm, 160, rfl⟩
abbrev main_cst_11 : Ref sig .tc := ⟨.hbm, 161, rfl⟩
abbrev main_call7_v0 : Ref sig .tc := ⟨.hbm, 162, rfl⟩
abbrev main_call7_v1 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_cst_12 : Ref sig .tc := ⟨.hbm, 170, rfl⟩
abbrev main_v89 : Ref sig .tc := ⟨.hbm, 171, rfl⟩
abbrev main_v90 : Ref sig .tc := ⟨.hbm, 172, rfl⟩
abbrev main_cst_13 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩

abbrev nD : Nat := 1
abbrev τ : Topo := Topo.v7x

variable {F : FTy → Type} [FloatOps F]

abbrev main_while0_count : Scf.Loop 32 := ⟨0#32, 1024#32, 1#32⟩
-- ==== Proof.IdealCoreValues.lean ====
/-
  What the body of the core kernel computes at one grid point, as functions of its operands' blocks, of the eight
  rows of history the point before left, and of the recurrence's state the point before left.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic
public import Idealize.ShloMosaic.Lib.ValueIdx

@[expose] public section

set_option maxRecDepth 16384

noncomputable section

namespace Cert.KernelIdeal.Core

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The whole rectangle's offsets are zero. -/
theorem hz : (![0, 0] : Fin 2 → Nat) = fun _ => 0 := funext fun a => by fin_cases a <;> rfl

theorem hz3 : (![0, 0, 0] : Fin 3 → Nat) = fun _ => 0 := funext fun a => by fin_cases a <;> rfl

/-- The convolution's input: eight rows of history over the 256 rows of the block. -/
def ext (hi : Vec F S8x2048 .f32) (p : Vec F S256x2048 .f32) : Vec F S264x2048 .f32 :=
  View.canon [⟨Rect.unit (s := S264x2048) ![8, 0] S256x2048.size inb_S264x2048_S256x2048_8_0, p⟩,
    ⟨Rect.unit (s := S264x2048) ![0, 0] S8x2048.size inb_S264x2048_S8x2048_0_0, k0_pay8 hi⟩]

/-- The block's x path: the input block against the first half of the projection. -/
def xpB (x0 : Vec F S1x256x1024 .f32) (x1 : Vec F S4096x1024 .f32) : Vec F S256x2048 .f32 :=
  k0_pay9 x0 (View.ld x1 (Rect.unit (s := S4096x1024) ![0, 0] S2048x1024.size inb_S4096x1024_S2048x1024_0_0))

/-- The block's z path. -/
def zB (x0 : Vec F S1x256x1024 .f32) (x1 : Vec F S4096x1024 .f32) : Vec F S256x2048 .f32 :=
  k0_pay6 x0 (View.ld x1 (Rect.unit (s := S4096x1024) ![2048, 0] S2048x1024.size inb_S4096x1024_S2048x1024_2048_0))

/-- The history left for the next block: the last eight rows of the convolution's input. -/
def histB (hi : Vec F S8x2048 .f32) (p : Vec F S256x2048 .f32) : Vec F S8x2048 .f32 :=
  k0_pay10 (View.ld (ext hi p) (Rect.unit (s := S264x2048) ![256, 0] S8x2048.size inb_S264x2048_S8x2048_256_0))

/-- The activated convolution `f` of the payload function `pay`, at the four shifts of the convolution's input. -/
abbrev atShifts {β : Type} (x2 : Vec F S4x2048 .f32) (x3 : Vec F S1x2048 .f32) (e : Vec F S264x2048 .f32)
    (pay : FVec F S4x2048 .f32 → FVec F S256x2048 .f32 → FVec F S1x2048 .f32 → Vec F S256x2048 .f32 → Vec F S256x2048 .f32
      → Vec F S256x2048 .f32 → Vec F S1x2048 .f32 → β) : β :=
  pay (k0_pay11 x2)
    (k0_pay12 x2 (View.ld e (Rect.unit (s := S264x2048) ![5, 0] S256x2048.size inb_S264x2048_S256x2048_5_0)))
    (k0_pay13 x2)
    (View.ld e (Rect.unit (s := S264x2048) ![6, 0] S256x2048.size inb_S264x2048_S256x2048_6_0))
    (View.ld e (Rect.unit (s := S264x2048) ![7, 0] S256x2048.size inb_S264x2048_S256x2048_7_0))
    (View.ld e (Rect.unit (s := S264x2048) ![8, 0] S256x2048.size inb_S264x2048_S256x2048_8_0)) x3

/-- The block after the convolution and its activation. -/
def xcB (x2 : Vec F S4x2048 .f32) (x3 : Vec F S1x2048 .f32) (e : Vec F S264x2048 .f32) : Vec F S256x2048 .f32 :=
  atShifts x2 x3 e k0_pay14

/-- The decay rows `exp (-delta)` of the block. -/
def aB (x2 : Vec F S4x2048 .f32) (x3 : Vec F S1x2048 .f32) (x4 : Vec F S96x2048 .f32) (x5 : Vec F S2048x64 .f32)
    (x6 : Vec F S1x2048 .f32) (e : Vec F S264x2048 .f32) : Vec F S256x2048 .f32 :=
  k0_pay23 (atShifts x2 x3 e k0_pay18 x4) x5 x6

/-- The rows `delta * x` of the block. -/
def duB (x2 : Vec F S4x2048 .f32) (x3 : Vec F S1x2048 .f32) (x4 : Vec F S96x2048 .f32) (x5 : Vec F S2048x64 .f32)
    (x6 : Vec F S1x2048 .f32) (e : Vec F S264x2048 .f32) : Vec F S256x2048 .f32 :=
  k0_pay24 (xcB x2 x3 e) (atShifts x2 x3 e k0_pay18 x4) x5 x6

/-- The columns `B` of the block. -/
def bcB (x2 : Vec F S4x2048 .f32) (x3 : Vec F S1x2048 .f32) (x4 : Vec F S96x2048 .f32) (e : Vec F S264x2048 .f32) :
    Vec F S256x16x1 .f32 :=
  atShifts x2 x3 e k0_pay19 x4

/-- The columns `C` of the block. -/
def ccB (x2 : Vec F S4x2048 .f32) (x3 : Vec F S1x2048 .f32) (x4 : Vec F S96x2048 .f32) (e : Vec F S264x2048 .f32) :
    Vec F S256x16x1 .f32 :=
  k0_pay21 (atShifts x2 x3 e k0_pay20 x4)

/-- Row `k` of a 256-row block. -/
abbrev row (X : Vec F S256x2048 .f32) (k : Fin k0_t1_loop.trips) : Vec F S1x2048 .f32 :=
  View.ld X (Rect.unit (s := S256x2048) (k0_off1 k) S1x2048.size (k0_off1_inb k))

/-- Column `k` of a block of columns. -/
abbrev col (X : Vec F S256x16x1 .f32) (k : Fin k0_t1_loop.trips) : Vec F S1x16x1 .f32 :=
  View.ld X (Rect.unit (s := S256x16x1) (k0_off2 k) S1x16x1.size (k0_off2_inb k))

/-- The recurrence's state before trip `k`, from `h0` before the first. -/
def hAt (A U : Vec F S256x2048 .f32) (Bc : Vec F S256x16x1 .f32) (h0 : Vec F S16x2048 .f32) : ℕ → Vec F S16x2048 .f32
  | 0 => h0
  | k + 1 => if h : k < k0_t1_loop.trips then k0_pay2 (row A ⟨k, h⟩) (row U ⟨k, h⟩) (col Bc ⟨k, h⟩) (hAt A U Bc h0 k)
      else hAt A U Bc h0 k

/-- One trip of the recurrence. -/
theorem hAt_succ (A U : Vec F S256x2048 .f32) (Bc : Vec F S256x16x1 .f32) (h0 : Vec F S16x2048 .f32)
    (k : Fin k0_t1_loop.trips) :
    hAt A U Bc h0 (k.val + 1) = k0_pay2 (row A k) (row U k) (col Bc k) (hAt A U Bc h0 k.val) := by
  rw [hAt]; exact dif_pos k.isLt

/-- The loop makes 256 trips. -/
theorem trips_eq : k0_t1_loop.trips = 256 := by decide +kernel

/-- The rows the loop leaves: row `k` reads `C` against the state after trip `k`. -/
def yB (A U : Vec F S256x2048 .f32) (Bc Cc : Vec F S256x16x1 .f32) (h0 : Vec F S16x2048 .f32) : Vec F S256x2048 .f32 := fun j =>
  let k : Fin k0_t1_loop.trips := ⟨(j 0).val, by rw [trips_eq]; exact (j 0).isLt⟩
  k0_pay3 (row A k) (row U k) (col Bc k) (col Cc k) (hAt A U Bc h0 k.val)
    (ValueIdx.ix2 (n0 := 1) (n1 := 2048) 0 (j 1))

/-- The state the point leaves. -/
def hB (x0 : Vec F S1x256x1024 .f32) (x1 : Vec F S4096x1024 .f32) (x2 : Vec F S4x2048 .f32) (x3 : Vec F S1x2048 .f32) (x4 : Vec F S96x2048 .f32) (x5 : Vec F S2048x64 .f32) (x6 : Vec F S1x2048 .f32) (hi : Vec F S8x2048 .f32) (h0 : Vec F S16x2048 .f32) : Vec F S16x2048 .f32 :=
  let e := ext hi (xpB x0 x1)
  hAt (aB x2 x3 x4 x5 x6 e) (duB x2 x3 x4 x5 x6 e) (bcB x2 x3 x4 e) h0 k0_t1_loop.trips

/-- The block the point leaves in the result. -/
def outB (x0 : Vec F S1x256x1024 .f32) (x1 : Vec F S4096x1024 .f32) (x2 : Vec F S4x2048 .f32) (x3 : Vec F S1x2048 .f32) (x4 : Vec F S96x2048 .f32) (x5 : Vec F S2048x64 .f32) (x6 : Vec F S1x2048 .f32) (x7 : Vec F S1x2048 .f32) (hi : Vec F S8x2048 .f32) (h0 : Vec F S16x2048 .f32) : Vec F S1x256x2048 .f32 :=
  let e := ext hi (xpB x0 x1)
  k0_pay4 (yB (aB x2 x3 x4 x5 x6 e) (duB x2 x3 x4 x5 x6 e) (bcB x2 x3 x4 e) (ccB x2 x3 x4 e) h0)
    (atShifts x2 x3 e k0_pay15) x7 (k0_pay16 (zB x0 x1))

end Cert.KernelIdeal.Core

end
-- ==== Proof.Model.lean ====
/-
  The block's mathematics over the extended reals, index by index, with the time a natural number: the input
  projection, the causal convolution of four taps and its activation, the selective recurrence with its clamps, the
  gate and the output projection. Both programs are read down to these functions.
-/
module

public import Idealize.ShloMosaic.Lib.Pointwise

@[expose] public section

noncomputable section

namespace Cert.Model

open Idealize.ShloMosaic

/-- The arrays the block is called with, read at their indices: the input (at a time beyond the sequence, zero), the two
    projections, the taps and bias of the convolution, the two projections of the step and its bias, and the skip weight. -/
structure Params where
  x : Fin 2 → ℕ → Fin 1024 → EReal
  W : Fin 4096 → Fin 1024 → EReal
  cw : Fin 2048 → Fin 4 → EReal
  cb : Fin 2048 → EReal
  Wx : Fin 96 → Fin 2048 → EReal
  Wd : Fin 2048 → Fin 64 → EReal
  bd : Fin 2048 → EReal
  D : Fin 2048 → EReal
  Wo : Fin 1024 → Fin 2048 → EReal

/-- The arrays as a program is handed them: the input has 1024 times, the taps an axis of extent one between the two. -/
def ofArrays (a0 : Fin 2 → Fin 1024 → Fin 1024 → EReal) (a1 : Fin 4096 → Fin 1024 → EReal)
    (a2 : Fin 2048 → Fin 4 → EReal) (a3 : Fin 2048 → EReal) (a4 : Fin 96 → Fin 2048 → EReal)
    (a5 : Fin 2048 → Fin 64 → EReal) (a6 a8 : Fin 2048 → EReal) (a9 : Fin 1024 → Fin 2048 → EReal) : Params where
  x b t k := if h : t < 1024 then a0 b ⟨t, h⟩ k else 0
  W := a1
  cw := a2
  cb := a3
  Wx := a4
  Wd := a5
  bd := a6
  D := a8
  Wo := a9

/-- Between `-k` and `k`, the bounds given by their encodings. -/
abbrev clip (lo hi : BitVec 32) (v : EReal) : EReal := min (Ideal.ofBits .f32 hi) (max (Ideal.ofBits .f32 lo) v)

/-- `v` times its logistic. -/
abbrev silu (v : EReal) : EReal := v * Ideal.logistic v

variable (P : Params)

/-- The x half of the input projection. -/
def xp (b : Fin 2) (t : ℕ) (d : Fin 2048) : EReal := ∑ k : Fin 1024, P.x b t k * P.W ⟨d.val, by omega⟩ k

/-- Its z half. -/
def zp (b : Fin 2) (t : ℕ) (d : Fin 2048) : EReal := ∑ k : Fin 1024, P.x b t k * P.W ⟨2048 + d.val, by omega⟩ k

/-- The x half eight steps late, zero before the sequence begins. -/
def late (b : Fin 2) (s : ℕ) (d : Fin 2048) : EReal := if 8 ≤ s then xp P b (s - 8) d else 0

/-- The convolution: the four taps over the three steps before and the step itself, and the bias. -/
def conv (b : Fin 2) (t : ℕ) (d : Fin 2048) : EReal :=
  P.cw d 0 * late P b (5 + t) d + P.cw d 1 * late P b (6 + t) d + P.cw d 2 * late P b (7 + t) d
    + P.cw d 3 * late P b (8 + t) d + P.cb d

/-- The convolution activated. -/
def xc (b : Fin 2) (t : ℕ) (d : Fin 2048) : EReal := silu (conv P b t d)

/-- The 96 numbers that give the step, `B` and `C`. -/
def xd (b : Fin 2) (t : ℕ) (j : Fin 96) : EReal := ∑ d : Fin 2048, xc P b t d * P.Wx j d

/-- The step before its softplus. -/
def dt (b : Fin 2) (t : ℕ) (d : Fin 2048) : EReal :=
  (∑ r : Fin 64, xd P b t ⟨r.val, by omega⟩ * P.Wd d r) + P.bd d

/-- Softplus, as `max v 0 + log (1 + exp (-|v|))`. -/
def softplus (v : EReal) : EReal := max v 0 + Ideal.log1p (Ideal.exp (-max v (-v)))

/-- The step. -/
def delta (b : Fin 2) (t : ℕ) (d : Fin 2048) : EReal :=
  min (softplus (dt P b t d) + Ideal.ofBits .f32 0x38D1B717#32) (Ideal.ofBits .f32 0x41200000#32)

/-- What the step adds to the state. -/
def bu (b : Fin 2) (t : ℕ) (d : Fin 2048) (n : Fin 16) : EReal :=
  clip 0xC1200000#32 0x41200000#32 (xd P b t ⟨64 + n.val, by omega⟩ * (delta P b t d * xc P b t d))

/-- The state before time `t`. -/
def h (b : Fin 2) (d : Fin 2048) (n : Fin 16) : ℕ → EReal
  | 0 => 0
  | t + 1 => clip 0xC1A00000#32 0x41A00000#32 (Ideal.exp (-delta P b t d) * h b d n t + bu P b t d n)

/-- What `C` reads of the state. -/
def y (b : Fin 2) (t : ℕ) (d : Fin 2048) : EReal := ∑ n : Fin 16, xd P b t ⟨80 + n.val, by omega⟩ * h P b d n (t + 1)

/-- The gated output of the core. -/
def core (b : Fin 2) (t : ℕ) (d : Fin 2048) : EReal :=
  clip 0xC2480000#32 0x42480000#32 (y P b t d + xc P b t d * P.D d) * silu (zp P b t d)

/-- The block's result. -/
def out (b : Fin 2) (t : ℕ) (e : Fin 1024) : EReal := ∑ d : Fin 2048, core P b t d * P.Wo e d

/-! ## Small facts -/

/-- The step is not negative. -/
theorem delta_nonneg (b : Fin 2) (t : ℕ) (d : Fin 2048) : 0 ≤ delta P b t d := by
  have h1 : ∀ v : EReal, 0 ≤ v → 0 ≤ Ideal.log1p v := by
    intro v hv
    unfold Ideal.log1p
    induction v using EReal.rec with
    | bot => exact absurd hv (by simp)
    | top => rw [show (1 : EReal) + ⊤ = ⊤ from rfl]; exact le_top
    | coe r =>
      have hr : (0 : ℝ) ≤ r := by exact_mod_cast hv
      rw [show (1 : EReal) + (r : EReal) = ((1 + r : ℝ) : EReal) from by push_cast; rfl]
      show (0 : EReal) ≤ if 1 + r ≤ 0 then ⊥ else ((Real.log (1 + r) : ℝ) : EReal)
      rw [if_neg (by linarith)]
      exact_mod_cast Real.log_nonneg (by linarith)
  have h2 : ∀ v : EReal, 0 ≤ Ideal.exp v := by
    intro v
    induction v using EReal.rec with
    | bot => exact le_refl _
    | top => exact le_top
    | coe r => show (0 : EReal) ≤ ((Real.exp r : ℝ) : EReal); exact_mod_cast (Real.exp_pos r).le
  have h3 : (0 : EReal) ≤ Ideal.ofBits .f32 0x38D1B717#32 := by
    simp [Ideal.ofBits, Ideal.ieee, -EReal.coe_mul]
  have h4 : (0 : EReal) ≤ Ideal.ofBits .f32 0x41200000#32 := by
    simp [Ideal.ofBits, Ideal.ieee, -EReal.coe_mul]
  unfold delta softplus
  exact le_min (add_nonneg (add_nonneg (le_max_right _ _) (h1 _ (h2 _))) h3) h4

/-- Of a non-negative step the decay is at most ten. -/
theorem decay_le {v : EReal} (hv : 0 ≤ v) : min (Ideal.exp (-v)) (Ideal.ofBits .f32 0x41200000#32) = Ideal.exp (-v) := by
  refine min_eq_left ?_
  have h4 : (1 : EReal) ≤ Ideal.ofBits .f32 0x41200000#32 := by
    simp [Ideal.ofBits, Ideal.ieee, -EReal.coe_mul]; norm_num
    exact_mod_cast (by norm_num : (1 : ℝ) ≤ 10)
  refine le_trans ?_ h4
  induction v using EReal.rec with
  | bot => exact absurd hv (by simp)
  | top => show (0 : EReal) ≤ 1; exact zero_le_one
  | coe r =>
    have hr : (0 : ℝ) ≤ r := by exact_mod_cast hv
    show ((Real.exp (-r) : ℝ) : EReal) ≤ 1
    exact_mod_cast Real.exp_le_one_iff.mpr (by linarith)

end Cert.Model

end
-- ==== Proof.IdealPoint.lean ====
/-
  What the body of the core kernel computes at one grid point, read at an index: with the operands' blocks the rows of the
  block's mathematics from time `T`, the history the eight rows before it and the state the one before time `T`, the
  point leaves the rows of the result, the history and the state for time `T + 256`.
-/
module

public import proofs.«01_k».proof.Proof.IdealCoreValues
public import proofs.«01_k».proof.Proof.Model
public import Idealize.ShloMosaic.Lib.Pointwise
public import Idealize.ShloMosaic.Lib.Pipeline.ValueKit.Tiles

@[expose] public section

set_option maxRecDepth 16384

noncomputable section

namespace Cert.KernelIdeal.Core

open Idealize.ShloMosaic Idealize.ShloMosaic.TcCoe
open Cert.KernelIdeal Cert.KernelIdeal.Gen
open Cert.Model (Params)

/-- The operands' blocks at a point of batch `b` whose first time is `T`, as the arrays they are read off. -/
structure Blocks (P : Params) (b : Fin 2) (T : ℕ) (x0 : Vec Ideal S1x256x1024 .f32) (x1 : Vec Ideal S4096x1024 .f32)
    (x2 : Vec Ideal S4x2048 .f32) (x3 : Vec Ideal S1x2048 .f32) (x4 : Vec Ideal S96x2048 .f32)
    (x5 : Vec Ideal S2048x64 .f32) (x6 x7 : Vec Ideal S1x2048 .f32) : Prop where
  h0 : ∀ (r : Fin 256) (k : Fin 1024), x0 (ix3 0 r k) = P.x b (T + r.val) k
  h1 : ∀ (j : Fin 4096) (k : Fin 1024), x1 (ix2 j k) = P.W j k
  h2 : ∀ (k : Fin 4) (d : Fin 2048), x2 (ix2 k d) = P.cw d k
  h3 : ∀ d : Fin 2048, x3 (ix2 0 d) = P.cb d
  h4 : ∀ (j : Fin 96) (d : Fin 2048), x4 (ix2 j d) = P.Wx j d
  h5 : ∀ (d : Fin 2048) (r : Fin 64), x5 (ix2 d r) = P.Wd d r
  h6 : ∀ d : Fin 2048, x6 (ix2 0 d) = P.bd d
  h7 : ∀ d : Fin 2048, x7 (ix2 0 d) = P.D d

variable {P : Params} {b : Fin 2} {T : ℕ} {x0 : Vec Ideal S1x256x1024 .f32} {x1 : Vec Ideal S4096x1024 .f32}
    {x2 : Vec Ideal S4x2048 .f32} {x3 : Vec Ideal S1x2048 .f32} {x4 : Vec Ideal S96x2048 .f32}
    {x5 : Vec Ideal S2048x64 .f32} {x6 x7 : Vec Ideal S1x2048 .f32}
    {e : Vec Ideal S264x2048 .f32} {hi : Vec Ideal S8x2048 .f32} {h0 : Vec Ideal S16x2048 .f32}

/-! ## The projections and the convolution's input -/

/-- The x path at an index. -/
theorem xpB_at (H : Blocks P b T x0 x1 x2 x3 x4 x5 x6 x7) (r : Fin 256) (d : Fin 2048) :
    xpB x0 x1 (ix2 r d) = Model.xp P b (T + r.val) d := by
  pointwise [xpB, k0_pay9, k0_pay5]
  simp only [H.h0, H.h1]
  rfl

/-- The z path at an index. -/
theorem zB_at (H : Blocks P b T x0 x1 x2 x3 x4 x5 x6 x7) (r : Fin 256) (d : Fin 2048) :
    zB x0 x1 (ix2 r d) = Model.zp P b (T + r.val) d := by
  pointwise [zB, k0_pay6, k0_pay5]
  simp only [H.h0, H.h1]
  rfl

/-- A row below the eighth is not of the block's x path. -/
theorem low_not_mem (r : Fin 8) (d : Fin 2048) : (ix2 ⟨r.val, by omega⟩ d : S264x2048.Idx)
    ∉ (Rect.unit (s := S264x2048) ![8, 0] S256x2048.size inb_S264x2048_S256x2048_8_0).set := by
  rw [Rect.mem_set_unit]
  intro h
  have h8 : 8 ≤ r.val := (h 0).1
  omega

/-- It is of the history. -/
theorem low_emb (r : Fin 8) (d : Fin 2048) : (ix2 ⟨r.val, by omega⟩ d : S264x2048.Idx)
    = (Rect.unit (s := S264x2048) ![0, 0] S8x2048.size inb_S264x2048_S8x2048_0_0).emb (ix2 r d) := by
  funext a; apply Fin.ext; fin_cases a <;> simp [Rect.emb, Rect.unit, ix2]

/-- The first eight rows of the convolution's input are the history. -/
theorem ext_low (hi : Vec Ideal S8x2048 .f32) (p : Vec Ideal S256x2048 .f32) (r : Fin 8) (d : Fin 2048) :
    ext hi p (ix2 ⟨r.val, by omega⟩ d) = hi (ix2 r d) := by
  have e1 : k0_pay8 hi (ix2 r d) = hi (ix2 r d) := by pointwise [k0_pay8]
  unfold ext
  rw [View.canon_cons_of_not_mem]
  · rw [low_emb, View.canon_cons_emb]
    exact e1
  · exact low_not_mem r d

/-- The other rows are the block's x path. -/
theorem ext_high (hi : Vec Ideal S8x2048 .f32) (p : Vec Ideal S256x2048 .f32) (r : Fin 256) (d : Fin 2048) :
    ext hi p (ix2 ⟨8 + r.val, by omega⟩ d) = p (ix2 r d) := by
  unfold ext
  have hx : (ix2 ⟨8 + r.val, by omega⟩ d : S264x2048.Idx)
      = (Rect.unit (s := S264x2048) ![8, 0] S256x2048.size inb_S264x2048_S256x2048_8_0).emb (ix2 r d) := by
    funext a; apply Fin.ext; fin_cases a <;> simp [Rect.emb, Rect.unit, ix2]
  rw [hx, View.canon_cons_emb]

/-- The convolution's input is the x path eight steps late. -/
theorem ext_at (H : Blocks P b T x0 x1 x2 x3 x4 x5 x6 x7)
    (hh : ∀ (r : Fin 8) (d : Fin 2048), hi (ix2 r d) = Model.late P b (T + r.val) d) (r : Fin 264) (d : Fin 2048) :
    ext hi (xpB x0 x1) (ix2 r d) = Model.late P b (T + r.val) d := by
  by_cases hr : r.val < 8
  · exact (ext_low hi (xpB x0 x1) ⟨r.val, hr⟩ d).trans (hh ⟨r.val, hr⟩ d)
  · have hx : r = ⟨8 + (⟨r.val - 8, by omega⟩ : Fin 256).val, by have := r.isLt; show 8 + (r.val - 8) < 264; omega⟩ :=
      Fin.ext (by show r.val = 8 + (r.val - 8); omega)
    rw [hx, ext_high, xpB_at H]
    unfold Model.late
    rw [if_pos (by show 8 ≤ T + (8 + (r.val - 8)); omega)]
    congr 1
    show T + (r.val - 8) = T + (8 + (r.val - 8)) - 8
    omega

/-- The history the point leaves. -/
theorem histB_at (H : Blocks P b T x0 x1 x2 x3 x4 x5 x6 x7)
    (hh : ∀ (r : Fin 8) (d : Fin 2048), hi (ix2 r d) = Model.late P b (T + r.val) d) (r : Fin 8) (d : Fin 2048) :
    histB hi (xpB x0 x1) (ix2 r d) = Model.late P b (T + 256 + r.val) d := by
  pointwise [histB, k0_pay10]
  rw [ext_at H hh]
  congr 1
  show T + (256 + r.val) = T + 256 + r.val
  omega

/-! ## The rows of the block -/

section
variable (H : Blocks P b T x0 x1 x2 x3 x4 x5 x6 x7)
  (he : ∀ (r : Fin 264) (d : Fin 2048), e (ix2 r d) = Model.late P b (T + r.val) d)

include H he

/-- The activated convolution. -/
theorem xcB_at (r : Fin 256) (d : Fin 2048) : xcB x2 x3 e (ix2 r d) = Model.xc P b (T + r.val) d := by
  pointwise [xcB, atShifts, k0_pay14, k0_pay11, k0_pay12, k0_pay13]
  simp only [he, H.h2, H.h3, Nat.add_left_comm T]
  rfl

/-- The same value, kept for the skip term. -/
theorem skip_at (r : Fin 256) (d : Fin 2048) : atShifts x2 x3 e k0_pay15 (ix2 r d) = Model.xc P b (T + r.val) d := by
  pointwise [atShifts, k0_pay15, k0_pay14, k0_pay11, k0_pay12, k0_pay13]
  simp only [he, H.h2, H.h3, Nat.add_left_comm T]
  rfl

/-- The first 64 numbers of the projection that gives the step. -/
theorem low_at (r : Fin 256) (j : Fin 64) :
    atShifts x2 x3 e k0_pay18 x4 (ix2 r j) = Model.xd P b (T + r.val) ⟨j.val, by omega⟩ := by
  pointwise [atShifts, k0_pay18, k0_pay17, k0_pay14, k0_pay11, k0_pay12, k0_pay13]
  simp only [he, H.h2, H.h3, H.h4, Nat.add_left_comm T]
  rfl

/-- The columns `B`. -/
theorem bcB_at (r : Fin 256) (n : Fin 16) :
    bcB x2 x3 x4 e (ix3 r n 0) = Model.xd P b (T + r.val) ⟨64 + n.val, by omega⟩ := by
  pointwise [bcB, atShifts, k0_pay19, k0_pay17, k0_pay14, k0_pay11, k0_pay12, k0_pay13]
  simp only [he, H.h2, H.h3, H.h4, Nat.add_left_comm T]
  rfl

/-- The columns `C`. -/
theorem ccB_at (r : Fin 256) (n : Fin 16) :
    ccB x2 x3 x4 e (ix3 r n 0) = Model.xd P b (T + r.val) ⟨80 + n.val, by omega⟩ := by
  pointwise [ccB, atShifts, k0_pay21, k0_pay20, k0_pay17, k0_pay14, k0_pay11, k0_pay12, k0_pay13]
  simp only [he, H.h2, H.h3, H.h4, Nat.add_left_comm T]
  rfl

/-- The decay rows. -/
theorem aB_at (r : Fin 256) (d : Fin 2048) :
    aB x2 x3 x4 x5 x6 e (ix2 r d) = Ideal.exp (-Model.delta P b (T + r.val) d) := by
  unfold aB
  generalize hX : atShifts x2 x3 e k0_pay18 x4 = X
  pointwise [k0_pay23, k0_pay22]
  subst hX
  simp only [low_at H he, H.h5, H.h6, ne_eq, not_true_eq_false, if_false, zero_sub]
  rfl

/-- The rows `delta * x`. -/
theorem duB_at (r : Fin 256) (d : Fin 2048) :
    duB x2 x3 x4 x5 x6 e (ix2 r d) = Model.delta P b (T + r.val) d * Model.xc P b (T + r.val) d := by
  unfold duB
  rw [← xcB_at H he]
  generalize xcB x2 x3 e = Y
  generalize hX : atShifts x2 x3 e k0_pay18 x4 = X
  pointwise [k0_pay24, k0_pay22]
  subst hX
  simp only [low_at H he, H.h5, H.h6, ne_eq, not_true_eq_false, if_false, zero_sub]
  rfl

end

/-! ## The recurrence -/

/-- Row `k` of a block at an index. -/
theorem row_at (X : Vec Ideal S256x2048 .f32) (k : Fin k0_t1_loop.trips) (d : Fin 2048) :
    row X k (ix2 0 d) = X (ix2 ⟨k.val, Nat.lt_of_lt_of_eq k.isLt trips_eq⟩ d) :=
  View.ld_unit_apply_of X _ _ _ _ _ (fun a => by
    refine Eq.trans ?_ (congrArg (· + (ix2 (n0 := 1) (n1 := 2048) 0 d a).val) (congrFun (k0_off1_eq k) a).symm)
    fin_cases a <;> simp [ix2])

/-- Column `k` of a block of columns at an index. -/
theorem col_at (X : Vec Ideal S256x16x1 .f32) (k : Fin k0_t1_loop.trips) (n : Fin 16) :
    col X k (ix3 0 n 0) = X (ix3 ⟨k.val, Nat.lt_of_lt_of_eq k.isLt trips_eq⟩ n 0) :=
  View.ld_unit_apply_of X _ _ _ _ _ (fun a => by
    refine Eq.trans ?_ (congrArg (· + (ix3 (n0 := 1) (n1 := 16) (n2 := 1) 0 n 0 a).val) (congrFun (k0_off2_eq k) a).symm)
    fin_cases a <;> simp [ix3])

section
variable {A U : Vec Ideal S256x2048 .f32} {Bc Cc : Vec Ideal S256x16x1 .f32}
  (hA : ∀ (r : Fin 256) (d : Fin 2048), A (ix2 r d) = Ideal.exp (-Model.delta P b (T + r.val) d))
  (hU : ∀ (r : Fin 256) (d : Fin 2048), U (ix2 r d) = Model.delta P b (T + r.val) d * Model.xc P b (T + r.val) d)
  (hB : ∀ (r : Fin 256) (n : Fin 16), Bc (ix3 r n 0) = Model.xd P b (T + r.val) ⟨64 + n.val, by omega⟩)
  (hs : ∀ (n : Fin 16) (d : Fin 2048), h0 (ix2 n d) = Model.h P b d n T)

include hA hU hB

/-- One trip's state, from the state before it. -/
theorem pay2_at (k : Fin k0_t1_loop.trips) (s : Vec Ideal S16x2048 .f32)
    (hs' : ∀ (n : Fin 16) (d : Fin 2048), s (ix2 n d) = Model.h P b d n (T + k.val)) (n : Fin 16) (d : Fin 2048) :
    k0_pay2 (row A k) (row U k) (col Bc k) s (ix2 n d) = Model.h P b d n (T + k.val + 1) := by
  have e1 := row_at A k d
  have e2 := row_at U k d
  have e3 := col_at Bc k n
  revert e1 e2 e3
  generalize row A k = a
  generalize row U k = u
  generalize col Bc k = c
  intro e1 e2 e3
  pointwise [k0_pay2, k0_pay1]
  rw [e1, e2, e3, hA, hU, hB, hs']
  rfl

include hs

/-- The state before trip `k`. -/
theorem hAt_at : ∀ (k : ℕ) (hk : k ≤ k0_t1_loop.trips) (n : Fin 16) (d : Fin 2048),
    hAt A U Bc h0 k (ix2 n d) = Model.h P b d n (T + k)
  | 0, _, n, d => hs n d
  | k + 1, hk, n, d => by
    rw [hAt_succ A U Bc h0 ⟨k, hk⟩]
    exact pay2_at hA hU hB ⟨k, hk⟩ _ (fun n d => hAt_at k (Nat.le_of_succ_le hk) n d) n d

/-- The rows the loop leaves. -/
theorem yB_at (hC : ∀ (r : Fin 256) (n : Fin 16), Cc (ix3 r n 0) = Model.xd P b (T + r.val) ⟨80 + n.val, by omega⟩)
    (r : Fin 256) (d : Fin 2048) : yB A U Bc Cc h0 (ix2 r d) = Model.y P b (T + r.val) d := by
  have hr : r.val < k0_t1_loop.trips := by rw [trips_eq]; exact r.isLt
  show k0_pay3 (row A ⟨r.val, hr⟩) (row U ⟨r.val, hr⟩) (col Bc ⟨r.val, hr⟩) (col Cc ⟨r.val, hr⟩)
    (hAt A U Bc h0 r.val) (ix2 0 d) = _
  have e1 := row_at A ⟨r.val, hr⟩ d
  have e2 := row_at U ⟨r.val, hr⟩ d
  have e3 := col_at Bc ⟨r.val, hr⟩
  have e4 := col_at Cc ⟨r.val, hr⟩
  have e5 := fun n => hAt_at hA hU hB hs r.val hr.le n d
  revert e1 e2 e3 e4 e5
  generalize row A ⟨r.val, hr⟩ = a
  generalize row U ⟨r.val, hr⟩ = u
  generalize col Bc ⟨r.val, hr⟩ = c
  generalize col Cc ⟨r.val, hr⟩ = c'
  generalize hAt A U Bc h0 r.val = s
  intro e1 e2 e3 e4 e5
  pointwise [k0_pay3, k0_pay2, k0_pay1]
  simp only [e1, e2, e3, e4, e5, hA, hU, hB, hC]
  rfl

end

/-! ## The point -/

section
variable (H : Blocks P b T x0 x1 x2 x3 x4 x5 x6 x7)
  (hh : ∀ (r : Fin 8) (d : Fin 2048), hi (ix2 r d) = Model.late P b (T + r.val) d)
  (hs : ∀ (n : Fin 16) (d : Fin 2048), h0 (ix2 n d) = Model.h P b d n T)

include H hh hs

/-- The state the point leaves. -/
theorem hB_at (n : Fin 16) (d : Fin 2048) :
    hB x0 x1 x2 x3 x4 x5 x6 hi h0 (ix2 n d) = Model.h P b d n (T + 256) := by
  have he := ext_at H hh
  rw [show T + 256 = T + k0_t1_loop.trips by rw [trips_eq]]
  exact hAt_at (aB_at H he) (duB_at H he) (bcB_at H he) hs _ le_rfl n d

/-- The block of the result the point leaves. -/
theorem outB_at (r : Fin 256) (d : Fin 2048) :
    outB x0 x1 x2 x3 x4 x5 x6 x7 hi h0 (ix3 0 r d) = Model.core P b (T + r.val) d := by
  have he := ext_at H hh
  have e1 := yB_at (aB_at H he) (duB_at H he) (bcB_at H he) hs (ccB_at H he) r d
  have e2 := skip_at H he r d
  have e3 := zB_at H r d
  unfold outB
  revert e1 e2 e3
  generalize yB _ _ _ _ h0 = y
  generalize atShifts x2 x3 _ k0_pay15 = s
  generalize zB x0 x1 = z
  intro e1 e2 e3
  pointwise [k0_pay4, k0_pay16]
  rw [e1, e2, e3, H.h7]
  rfl

end

end Cert.KernelIdeal.Core

end
-- ==== Proof.IdealCoreLoop.lean ====
/-
  What the counted loop of the core kernel leaves in the two memrefs it writes: the recurrence's state, and one row
  per trip.
-/
module

public import proofs.«01_k».proof.Proof.IdealCoreValues
public import Idealize.ShloMosaic.Lib.WritesUnit
public import Idealize.ShloMosaic.Lib.Pipeline.Value
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic
public import Idealize.ShloMosaic.Lib.ValueIdx

@[expose] public section

set_option maxRecDepth 16384

noncomputable section

namespace Cert.KernelIdeal.Core

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

section
variable (𝒱 : Variants) (c : Dev nD) (bd : Option 𝒱.V) (i : grid0.Coords) (arg2 : Memref sig .tc .vmem S1x256x1024 .f32) (harg2 : arg2.IsWhole) (arg3 : Memref sig .tc .vmem S4096x1024 .f32) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .f32) (harg6 : arg6.IsWhole) (arg7 : Memref sig .tc .vmem S2048x64 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256x2048 .f32) (harg10 : arg10.IsWhole) (arg11 : Memref sig .tc .vmem S264x2048 .f32) (harg11 : arg11.IsWhole) (arg12 : Memref sig .tc .vmem S8x2048 .f32) (harg12 : arg12.IsWhole) (arg13 : Memref sig .tc .vmem S16x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x16x1 .f32) (harg16 : arg16.IsWhole) (arg17 : Memref sig .tc .vmem S256x16x1 .f32) (harg17 : arg17.IsWhole) (arg18 : Memref sig .tc .vmem S256x2048 .f32) (harg18 : arg18.IsWhole) (arg19 : Memref sig .tc .vmem S256x2048 .f32) (harg19 : arg19.IsWhole) (arg20 : Memref sig .tc .vmem S256x2048 .f32) (harg20 : arg20.IsWhole)
  (X14 : BufTy.Contents (Elt F) arg14.view.ty) (X15 : BufTy.Contents (Elt F) arg15.view.ty) (X16 : BufTy.Contents (Elt F) arg16.view.ty) (X17 : BufTy.Contents (Elt F) arg17.view.ty)

/-- The pieces one trip writes, read off its run. -/
theorem trip_eq (k : Fin k0_t1_loop.trips) (f13 : BufTy.Contents (Elt F) arg13.view.ty) (f20 : BufTy.Contents (Elt F) arg20.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X15 X16 X17 k f13 f20
      = ([⟨Rect.unit (s := S16x2048) ![0, 0] S16x2048.size inb_S16x2048_S16x2048_0_0,
            k0_pay2 (row (arg14.view.read (Elt F) X14) k) (row (arg15.view.read (Elt F) X15) k) (col (arg16.view.read (Elt F) X16) k)
              (arg13.view.read (Elt F) f13)⟩],
         [⟨Rect.unit (s := S256x2048) (k0_off1 k) S1x2048.size (k0_off1_inb k),
            k0_pay3 (row (arg14.view.read (Elt F) X14) k) (row (arg15.view.read (Elt F) X15) k) (col (arg16.view.read (Elt F) X16) k)
              (col (arg17.view.read (Elt F) X17) k) (arg13.view.read (Elt F) f13)⟩]) := by
  have e : View.readAt (Elt F) arg13.view (Rect.unit (s := S16x2048) ![0, 0] S16x2048.size inb_S16x2048_S16x2048_0_0).toLoadRect f13
      = arg13.view.read (Elt F) f13 := View.ld_unit_zero (S := S16x2048) hz _ _
  rw [← e]
  unfold tripL_k0_t1 trip_k0_t1
  sl_unfold_run_names
  rfl

variable (G13 : BufTy.Contents (Elt F) arg13.view.ty) (G20 : BufTy.Contents (Elt F) arg20.view.ty)

/-- Before trip `k` the state memref holds the recurrence's state. -/
theorem loop_h : ∀ k, k ≤ k0_t1_loop.trips →
    arg13.view.read (Elt F) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X15 X16 X17 G13 G20 k).1)
      = hAt (arg14.view.read (Elt F) X14) (arg15.view.read (Elt F) X15) (arg16.view.read (Elt F) X16) (arg13.view.read (Elt F) G13) k
  | 0, _ => rfl
  | k + 1, hk => by
    have ih := loop_h k (Nat.le_of_succ_le hk)
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X15 X16 X17 G13 G20 ⟨k, hk⟩
    have e' := hAt_succ (arg14.view.read (Elt F) X14) (arg15.view.read (Elt F) X15) (arg16.view.read (Elt F) X16) (arg13.view.read (Elt F) G13) ⟨k, hk⟩
    refine (congrArg (fun p => arg13.view.read (Elt F) (arg13.view.writes (Elt F) G13 p.1)) e).trans (Eq.trans ?_ e'.symm)
    beta_reduce
    rw [trip_eq, ← ih]
    funext y
    exact View.read_writes_cons_unit_of_mem arg13.view _ _ _ _ y y hz fun a => (Nat.zero_add _).symm

/-- Before trip `k` the rows below `k` are the recurrence's. -/
theorem loop_y : ∀ k, k ≤ k0_t1_loop.trips → ∀ j : S256x2048.Idx, (j 0).val < k →
    arg20.view.read (Elt F) (arg20.view.writes (Elt F) G20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X15 X16 X17 G13 G20 k).2) j
      = yB (arg14.view.read (Elt F) X14) (arg15.view.read (Elt F) X15) (arg16.view.read (Elt F) X16) (arg17.view.read (Elt F) X17)
          (arg13.view.read (Elt F) G13) j
  | 0, _, _, hj => absurd hj (Nat.not_lt_zero _)
  | k + 1, hk, j, hj => by
    have ih := loop_y k (Nat.le_of_succ_le hk) j
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X15 X16 X17 G13 G20 ⟨k, hk⟩
    have hh := loop_h 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X15 X16 X17 G13 G20 k (Nat.le_of_succ_le hk)
    refine (congrArg (fun p => arg20.view.read (Elt F) (arg20.view.writes (Elt F) G20 p.2) j) e).trans ?_
    beta_reduce
    rw [trip_eq, hh]
    by_cases hjk : (j 0).val = k
    · subst hjk
      exact View.read_writes_cons_unit_of_mem arg20.view _ _ _ _ j (ValueIdx.ix2 (n0 := 1) (n1 := 2048) 0 (j 1)) (k0_off1_eq _)
        fun a => by
          fin_cases a
          · rfl
          · exact (Nat.zero_add _).symm
    · refine (View.read_writes_cons_unit_of_not_mem arg20.view _ _ _ _ j (k0_off1_eq _) (0 : Fin 2) ?_).trans (ih (by omega))
      left
      show (j 0).val < k
      omega

/-- After the loop every row is the recurrence's. -/
theorem loop_y_all :
    arg20.view.read (Elt F) (arg20.view.writes (Elt F) G20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X15 X16 X17 G13 G20 k0_t1_loop.trips).2)
      = yB (arg14.view.read (Elt F) X14) (arg15.view.read (Elt F) X15) (arg16.view.read (Elt F) X16) (arg17.view.read (Elt F) X17)
          (arg13.view.read (Elt F) G13) :=
  funext fun j => loop_y 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X14 X15 X16 X17 G13 G20 k0_t1_loop.trips le_rfl j (by rw [trips_eq]; exact (j 0).isLt)

end

end Cert.KernelIdeal.Core

end
-- ==== Proof.IdealCoreBody.lean ====
/-
  The body of the core kernel at one grid point, run over its skeleton: from its operands' blocks and the carried
  scratch to the named values.
-/
module

public import proofs.«01_k».proof.Proof.IdealCoreLoop
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic
public import Idealize.ShloMosaic.Lib.ValueIdx

@[expose] public section

set_option maxRecDepth 16384

noncomputable section

namespace Cert.KernelIdeal.Core

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The point is the first of its batch: the body's branch condition as it is printed. -/
abbrev cond (i : grid0.Coords) : Prop := Scalar.cmpi .ne (Scalar.extui (Scalar.cmpi .eq (BitVec.ofNat 32 (i 1).val) 0#32)) 0#32 = 1#1

section
variable {Val : EltTy → Type} {S : Shape} {e : EltTy} {sg : RefSig} {κ : Kind} {sp : Space}

/-- A store through the whole rectangle, last, is what is read back. -/
theorem read_last (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w :=
  funext fun y => View.read_writes_cons_unit_of_mem v f inb w L y y h fun a => (Nat.zero_add _).symm

/-- A load through the whole rectangle reads the contents. -/
theorem at_whole (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  View.ld_unit_zero h inb _

/-- A load through a rectangle of a whole memref at the contents reading `x` reads `x` there. -/
theorem at_unread {m : Memref sg κ sp S e} (hm : m.IsWhole) (x : S.Idx → Val e) (r : Rect S) :
    m.view.readAt Val r.toLoadRect (hm.unread x) = View.ld x r := by
  rw [View.readAt_eq_ld, hm.read_unread]

/-- A load of what a list of stores left, by the stores' canonical contents. -/
theorem cov_ld [∀ e, Nonempty (Val e)] (v : View sg κ sp S e) (L : List (View.Piece Val S e)) (r : Rect S) :
    v.readCov L r.toLoadRect = View.ld (View.canon L) r :=
  View.readCov_eq_canon' v L r.toLoadRect

/-- What is read back after a list of stores depends on the contents before them only through what those read. -/
theorem read_base (v : View sg κ sp S e) (f g : v.ty.Contents Val) (h : v.read Val f = v.read Val g) (L : List (View.Piece Val S e)) :
    v.read Val (v.writes Val f L) = v.read Val (v.writes Val g L) := by
  funext y
  by_cases hy : ∃ p ∈ L, y ∈ p.1.set
  · exact View.read_writes_apply_eq v f v g y L hy
  · have hn : ∀ p ∈ L, y ∉ p.1.set := fun p hp hm => hy ⟨p, hp, hm⟩
    rw [View.read_writes_apply_of_forall_not_mem v f y L hn, View.read_writes_apply_of_forall_not_mem v g y L hn, h]

end

set_option maxHeartbeats 2000000 in
/-- The body at a point of the first time block: whatever the carried scratch held, from zero history and zero state. -/
theorem runA (c : Dev nD) (i : grid0.Coords) (arg2 : Memref sig .tc .vmem S1x256x1024 .f32) (harg2 : arg2.IsWhole) (arg3 : Memref sig .tc .vmem S4096x1024 .f32) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .f32) (harg6 : arg6.IsWhole) (arg7 : Memref sig .tc .vmem S2048x64 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256x2048 .f32) (harg10 : arg10.IsWhole) (arg11 : Memref sig .tc .vmem S264x2048 .f32) (harg11 : arg11.IsWhole) (arg12 : Memref sig .tc .vmem S8x2048 .f32) (harg12 : arg12.IsWhole) (arg13 : Memref sig .tc .vmem S16x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x16x1 .f32) (harg16 : arg16.IsWhole) (arg17 : Memref sig .tc .vmem S256x16x1 .f32) (harg17 : arg17.IsWhole) (arg18 : Memref sig .tc .vmem S256x2048 .f32) (harg18 : arg18.IsWhole) (arg19 : Memref sig .tc .vmem S256x2048 .f32) (harg19 : arg19.IsWhole) (arg20 : Memref sig .tc .vmem S256x2048 .f32) (harg20 : arg20.IsWhole) (hc : cond i)
    (x0 : Vec F S1x256x1024 .f32) (x1 : Vec F S4096x1024 .f32) (x2 : Vec F S4x2048 .f32) (x3 : Vec F S1x2048 .f32) (x4 : Vec F S96x2048 .f32) (x5 : Vec F S2048x64 .f32) (x6 : Vec F S1x2048 .f32) (x7 : Vec F S1x2048 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outB x0 x1 x2 x3 x4 x5 x6 x7 (k0_pay7 (F := F)) (k0_pay25 (F := F))) ∗ (∃ d, owns (c : Thread nD τ) arg11 fullShare d) ∗ owns (c : Thread nD τ) arg12 fullShare (histB (k0_pay7 (F := F)) (xpB x0 x1)) ∗ owns (c : Thread nD τ) arg13 fullShare (hB x0 x1 x2 x3 x4 x5 x6 (k0_pay7 (F := F)) (k0_pay25 (F := F))) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_mamba_core i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K := by
    simp only [cc0_mamba_core_eq_skeleton]; unfold cc0_mamba_core_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      sl_unfold_run_names
      rw [read_last (S := S1x256x2048) _ _ hz3, at_whole (S := S256x2048) _ _ hz, loop_y_all]
      simp only [read_last (S := S256x2048) _ _ hz, read_last (S := S256x16x1) _ _ hz3, read_last (S := S1x256x2048) _ _ hz3, read_last (S := S8x2048) _ _ hz, read_last (S := S16x2048) _ _ hz,
        View.readCov_unit_zero (S := S8x2048) _ hz, View.readCov_unit_zero (S := S256x2048) _ hz, View.readCov_unit_zero (S := S16x2048) _ hz,
        at_whole (S := S1x256x1024) _ _ hz3, at_whole (S := S4x2048) _ _ hz, at_whole (S := S1x2048) _ _ hz, at_whole (S := S96x2048) _ _ hz,
        at_whole (S := S2048x64) _ _ hz, at_whole (S := S8x2048) _ _ hz, at_whole (S := S256x2048) _ _ hz, at_whole (S := S16x2048) _ _ hz,
        at_unread harg3, Memref.IsWhole.read_unread, cov_ld]
      rfl
    isplitl [HS0]
    · iexists _, _; isplitr; swap; · iexact HS0
      ipureintro; rfl
    isplitl [HS1]
    · iexists _; isplitr; swap; · iexact HS1
      ipureintro
      sl_unfold_run_names
      simp only [read_last (S := S256x2048) _ _ hz, read_last (S := S256x16x1) _ _ hz3, read_last (S := S1x256x2048) _ _ hz3, read_last (S := S8x2048) _ _ hz, read_last (S := S16x2048) _ _ hz,
        View.readCov_unit_zero (S := S8x2048) _ hz, View.readCov_unit_zero (S := S256x2048) _ hz, View.readCov_unit_zero (S := S16x2048) _ hz,
        at_whole (S := S1x256x1024) _ _ hz3, at_whole (S := S4x2048) _ _ hz, at_whole (S := S1x2048) _ _ hz, at_whole (S := S96x2048) _ _ hz,
        at_whole (S := S2048x64) _ _ hz, at_whole (S := S8x2048) _ _ hz, at_whole (S := S256x2048) _ _ hz, at_whole (S := S16x2048) _ _ hz,
        at_unread harg3, Memref.IsWhole.read_unread, cov_ld]
      rfl
    isplitl [HS2]
    · iexists _; isplitr; swap; · iexact HS2
      ipureintro
      sl_unfold_run_names
      rw [View.writes_append]
      refine (read_base _ _ (arg13.view.writes (Elt F) arg13.view.junk [⟨Rect.unit ![0, 0] S16x2048.size inb_S16x2048_S16x2048_0_0, k0_pay25 (F := F)⟩]) ((read_last (S := S16x2048) _ _ hz _ _ _).trans (read_last (S := S16x2048) _ _ hz _ _ _).symm) _).trans ?_
      refine (loop_h _ _ _ _ _ _ _ _ _ _ _ _ _ _ _ _ _ _ _ _ _ _ _ _ _ _ _ _ _ _ _ _ _ _ _ _ _ _ _ _ _ _ _ _ _ _ _ _ _ le_rfl).trans ?_
      simp only [read_last (S := S256x2048) _ _ hz, read_last (S := S256x16x1) _ _ hz3, read_last (S := S1x256x2048) _ _ hz3, read_last (S := S8x2048) _ _ hz, read_last (S := S16x2048) _ _ hz,
        View.readCov_unit_zero (S := S8x2048) _ hz, View.readCov_unit_zero (S := S256x2048) _ hz, View.readCov_unit_zero (S := S16x2048) _ hz,
        at_whole (S := S1x256x1024) _ _ hz3, at_whole (S := S4x2048) _ _ hz, at_whole (S := S1x2048) _ _ hz, at_whole (S := S96x2048) _ _ hz,
        at_whole (S := S2048x64) _ _ hz, at_whole (S := S8x2048) _ _ hz, at_whole (S := S256x2048) _ _ hz, at_whole (S := S16x2048) _ _ hz,
        at_unread harg3, Memref.IsWhole.read_unread, cov_ld]
      rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    · iexists _, _; isplitr; swap; · iexact HS9
      ipureintro; rfl

set_option maxHeartbeats 2000000 in
/-- The body at a point of a later time block: from the history and the state the point before left. -/
theorem runB (c : Dev nD) (i : grid0.Coords) (arg2 : Memref sig .tc .vmem S1x256x1024 .f32) (harg2 : arg2.IsWhole) (arg3 : Memref sig .tc .vmem S4096x1024 .f32) (harg3 : arg3.IsWhole) (arg4 : Memref sig .tc .vmem S4x2048 .f32) (harg4 : arg4.IsWhole) (arg5 : Memref sig .tc .vmem S1x2048 .f32) (harg5 : arg5.IsWhole) (arg6 : Memref sig .tc .vmem S96x2048 .f32) (harg6 : arg6.IsWhole) (arg7 : Memref sig .tc .vmem S2048x64 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256x2048 .f32) (harg10 : arg10.IsWhole) (arg11 : Memref sig .tc .vmem S264x2048 .f32) (harg11 : arg11.IsWhole) (arg12 : Memref sig .tc .vmem S8x2048 .f32) (harg12 : arg12.IsWhole) (arg13 : Memref sig .tc .vmem S16x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x16x1 .f32) (harg16 : arg16.IsWhole) (arg17 : Memref sig .tc .vmem S256x16x1 .f32) (harg17 : arg17.IsWhole) (arg18 : Memref sig .tc .vmem S256x2048 .f32) (harg18 : arg18.IsWhole) (arg19 : Memref sig .tc .vmem S256x2048 .f32) (harg19 : arg19.IsWhole) (arg20 : Memref sig .tc .vmem S256x2048 .f32) (harg20 : arg20.IsWhole) (hc : ¬cond i)
    (x0 : Vec F S1x256x1024 .f32) (x1 : Vec F S4096x1024 .f32) (x2 : Vec F S4x2048 .f32) (x3 : Vec F S1x2048 .f32) (x4 : Vec F S96x2048 .f32) (x5 : Vec F S2048x64 .f32) (x6 : Vec F S1x2048 .f32) (x7 : Vec F S1x2048 .f32) (hi : Vec F S8x2048 .f32) (h0 : Vec F S16x2048 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare hi ∗ owns (c : Thread nD τ) arg13 fullShare h0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outB x0 x1 x2 x3 x4 x5 x6 x7 hi h0) ∗ (∃ d, owns (c : Thread nD τ) arg11 fullShare d) ∗ owns (c : Thread nD τ) arg12 fullShare (histB hi (xpB x0 x1)) ∗ owns (c : Thread nD τ) arg13 fullShare (hB x0 x1 x2 x3 x4 x5 x6 hi h0) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_mamba_core i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 ) K := by
    simp only [cc0_mamba_core_eq_skeleton]; unfold cc0_mamba_core_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1; obtain rfl := harg13.eq_unread hfs2
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      sl_unfold_run_names
      rw [read_last (S := S1x256x2048) _ _ hz3, at_whole (S := S256x2048) _ _ hz, loop_y_all]
      simp only [read_last (S := S256x2048) _ _ hz, read_last (S := S256x16x1) _ _ hz3, read_last (S := S1x256x2048) _ _ hz3, read_last (S := S8x2048) _ _ hz, read_last (S := S16x2048) _ _ hz,
        View.readCov_unit_zero (S := S8x2048) _ hz, View.readCov_unit_zero (S := S256x2048) _ hz, View.readCov_unit_zero (S := S16x2048) _ hz,
        at_whole (S := S1x256x1024) _ _ hz3, at_whole (S := S4x2048) _ _ hz, at_whole (S := S1x2048) _ _ hz, at_whole (S := S96x2048) _ _ hz,
        at_whole (S := S2048x64) _ _ hz, at_whole (S := S8x2048) _ _ hz, at_whole (S := S256x2048) _ _ hz, at_whole (S := S16x2048) _ _ hz,
        at_unread harg3, Memref.IsWhole.read_unread, cov_ld]
      rfl
    isplitl [HS0]
    · iexists _, _; isplitr; swap; · iexact HS0
      ipureintro; rfl
    isplitl [HS1]
    · iexists _; isplitr; swap; · iexact HS1
      ipureintro
      sl_unfold_run_names
      simp only [read_last (S := S256x2048) _ _ hz, read_last (S := S256x16x1) _ _ hz3, read_last (S := S1x256x2048) _ _ hz3, read_last (S := S8x2048) _ _ hz, read_last (S := S16x2048) _ _ hz,
        View.readCov_unit_zero (S := S8x2048) _ hz, View.readCov_unit_zero (S := S256x2048) _ hz, View.readCov_unit_zero (S := S16x2048) _ hz,
        at_whole (S := S1x256x1024) _ _ hz3, at_whole (S := S4x2048) _ _ hz, at_whole (S := S1x2048) _ _ hz, at_whole (S := S96x2048) _ _ hz,
        at_whole (S := S2048x64) _ _ hz, at_whole (S := S8x2048) _ _ hz, at_whole (S := S256x2048) _ _ hz, at_whole (S := S16x2048) _ _ hz,
        at_unread harg3, Memref.IsWhole.read_unread, cov_ld]
      rfl
    isplitl [HS2]
    · iexists _; isplitr; swap; · iexact HS2
      ipureintro
      sl_unfold_run_names
      refine (loop_h _ _ _ _ _ _ _ _ _ _ _ _ _ _ _ _ _ _ _ _ _ _ _ _ _ _ _ _ _ _ _ _ _ _ _ _ _ _ _ _ _ _ _ _ _ _ _ _ _ le_rfl).trans ?_
      simp only [read_last (S := S256x2048) _ _ hz, read_last (S := S256x16x1) _ _ hz3, read_last (S := S1x256x2048) _ _ hz3, read_last (S := S8x2048) _ _ hz, read_last (S := S16x2048) _ _ hz,
        View.readCov_unit_zero (S := S8x2048) _ hz, View.readCov_unit_zero (S := S256x2048) _ hz, View.readCov_unit_zero (S := S16x2048) _ hz,
        at_whole (S := S1x256x1024) _ _ hz3, at_whole (S := S4x2048) _ _ hz, at_whole (S := S1x2048) _ _ hz, at_whole (S := S96x2048) _ _ hz,
        at_whole (S := S2048x64) _ _ hz, at_whole (S := S8x2048) _ _ hz, at_whole (S := S256x2048) _ _ hz, at_whole (S := S16x2048) _ _ hz,
        at_unread harg3, Memref.IsWhole.read_unread, cov_ld]
      rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    · iexists _, _; isplitr; swap; · iexact HS9
      ipureintro; rfl

end Cert.KernelIdeal.Core

end
-- ==== Proof.IdealCoreData.lean ====
/-
  The two regions' proof data: what each grid point finds in its operands' blocks and leaves, the carried scratch of
  the core kernel named point by point, and the bodies' obligations.
-/
module

public import proofs.«01_k».proof.Proof.IdealCoreBody
public import proofs.«01_k».proof.Proof.Gen.KernelIdeal.Regions
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic
public import Idealize.ShloMosaic.Lib.ValueIdx
public import Idealize.ShloMosaic.Lib.WordCmp

@[expose] public section

set_option maxRecDepth 16384

noncomputable section

namespace Cert.KernelIdeal.Core

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The core kernel's region -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- The point is the first of its batch exactly at the points divisible by four. -/
theorem cond_iff : ∀ t : Fin cfg0.N, cond (grid0.coords t) ↔ t.val % 4 = 0 :=
  (fun t => by
    have ht : t.val < 8 := Nat.lt_of_lt_of_eq t.isLt N_0
    have e1 : (grid0.coords t 1).val = t.val / 1 % 4 := Pipeline.Grid.coords_val t 1 (by decide) rfl
    simp only [cond, e1]
    word_cmp
   : ∀ t : Fin grid0.N, cond (grid0.coords t) ↔ t.val % 4 = 0)

/-- What point `t` starts from: zero history and zero state at the first point of a batch, what the point before left
    otherwise. -/
def start (t : ℕ) (p : Vec F S8x2048 .f32 × Vec F S16x2048 .f32) : Vec F S8x2048 .f32 × Vec F S16x2048 .f32 :=
  if t % 4 = 0 then (k0_pay7, k0_pay25) else p

/-- The history and the state after point `t`, from what it starts from. -/
def step (c : Dev nD) (t : Fin cfg0.N) (q : Vec F S8x2048 .f32 × Vec F S16x2048 .f32) : Vec F S8x2048 .f32 × Vec F S16x2048 .f32 :=
  (histB q.1 (xpB (iblk m c 0 t) (iblk m c 1 t)),
    hB (iblk m c 0 t) (iblk m c 1 t) (iblk m c 2 t) (iblk m c 3 t) (iblk m c 4 t) (iblk m c 5 t) (iblk m c 6 t) q.1 q.2)

/-- The history and the state before point `n`. -/
def stAt (c : Dev nD) : (n : ℕ) → n ≤ cfg0.N → Vec F S8x2048 .f32 × Vec F S16x2048 .f32
  | 0, _ => (k0_pay7, k0_pay25)
  | n + 1, hn => step m c ⟨n, hn⟩ (start n (stAt c n (Nat.le_of_succ_le hn)))

/-- The block of the result point `t` leaves. -/
def outAt (c : Dev nD) (t : Fin cfg0.N) : Vec F S1x256x2048 .f32 :=
  let q := start t.val (stAt m c t.val (Nat.le_of_lt t.isLt))
  outB (iblk m c 0 t) (iblk m c 1 t) (iblk m c 2 t) (iblk m c 3 t) (iblk m c 4 t) (iblk m c 5 t) (iblk m c 6 t) (iblk m c 7 t) q.1 q.2

abbrev scM0 : Memref sig .tc .vmem S264x2048 .f32 := Memref.whole cc0_scratch0
abbrev scM1 : Memref sig .tc .vmem S8x2048 .f32 := Memref.whole cc0_scratch1
abbrev scM2 : Memref sig .tc .vmem S16x2048 .f32 := Memref.whole cc0_scratch2
abbrev scM3 : Memref sig .tc .vmem S256x2048 .f32 := Memref.whole cc0_scratch3
abbrev scM4 : Memref sig .tc .vmem S256x2048 .f32 := Memref.whole cc0_scratch4
abbrev scM5 : Memref sig .tc .vmem S256x16x1 .f32 := Memref.whole cc0_scratch5
abbrev scM6 : Memref sig .tc .vmem S256x16x1 .f32 := Memref.whole cc0_scratch6
abbrev scM7 : Memref sig .tc .vmem S256x2048 .f32 := Memref.whole cc0_scratch7
abbrev scM8 : Memref sig .tc .vmem S256x2048 .f32 := Memref.whole cc0_scratch8
abbrev scM9 : Memref sig .tc .vmem S256x2048 .f32 := Memref.whole cc0_scratch9

/-- The scoped buffers that no window of the core kernel stages: the two carried between points as `P1` and `P2` say,
    the others at anything. -/
abbrev Scr (c : Dev nD) (P1 P2 : sProp 𝕄) : sProp 𝕄 :=
  iprop((∃ d, owns (c : Thread nD τ) scM0 fullShare d) ∗ P1 ∗ P2 ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d) ∗ (∃ d, owns (c : Thread nD τ) scM8 fullShare d) ∗ (∃ d, owns (c : Thread nD τ) scM9 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- They, at anything, are the scoped rest. -/
theorem Scr_eq (c : Dev nD) :
    (Pipeline.scopedRest spec0 c : sProp 𝕄) = Scr c iprop(∃ d, owns (c : Thread nD τ) scM1 fullShare d) iprop(∃ d, owns (c : Thread nD τ) scM2 fullShare d) := by
  rw [scopedRest0_eq]; unfold Scr; simp only [scM0, scM1, scM2, scM3, scM4, scM5, scM6, scM7, scM8, scM9, owns_whole]; try rfl

/-- The invariant before point `n`: the history and the state as point `n - 1` left them. -/
def PhiN (c : Dev nD) (n : ℕ) (h : n ≤ cfg0.N) : sProp 𝕄 :=
  if n = 0 then Pipeline.scopedRest spec0 c
  else Scr c (owns (c : Thread nD τ) scM1 fullShare (stAt m c n h).1) (owns (c : Thread nD τ) scM2 fullShare (stAt m c n h).2)

theorem PhiN_pos (c : Dev nD) (n : ℕ) (h : n ≤ cfg0.N) (hn : n ≠ 0) :
    PhiN m c n h = Scr c (owns (c : Thread nD τ) scM1 fullShare (stAt m c n h).1) (owns (c : Thread nD τ) scM2 fullShare (stAt m c n h).2) :=
  if_neg hn

/-- Whatever the point, the invariant says at least that the scoped rest is held at something. -/
theorem PhiN_forget (c : Dev nD) (n : ℕ) (h : n ≤ cfg0.N) : PhiN m c n h ⊢ (Pipeline.scopedRest spec0 c : sProp 𝕄) := by
  by_cases hn : n = 0
  · unfold PhiN; rw [if_pos hn]
  · rw [PhiN_pos m c n h hn, Scr_eq]
    iintro ⟨S0, S1, S2, S3, S4, S5, S6, S7, S8, S9, R0, R1, R2, R3, R4⟩
    isplitl [S0]; · iexact S0
    isplitl [S1]; · iexists _; iexact S1
    isplitl [S2]; · iexists _; iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [R0]; · iexact R0
    isplitl [R1]; · iexact R1
    isplitl [R2]; · iexact R2
    isplitl [R3]; · iexact R3
    iexact R4

/-- The core kernel's proof data on core `c`: the arrays as the region finds them, each input's buffer left as fetched,
    the result's block at `outAt`, the invariant `PhiN`; nothing owed; full shares. -/
def dat0 (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiN m c t.val (Nat.le_of_lt_succ t.isLt)
  q _ := fullShare
  owed _ := 0

theorem A0_eq (c : Dev nD) (w : Fin cfg0.W) : (dat0 m c).A w = V1 m c (Pipeline.arrRef spec0 w) := by
  dsimp only [dat0]
theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = iblk m c 4 t := by dsimp only [dat0]
theorem after0_5 (c : Dev nD) (t : Fin cfg0.N) : (dat0 m c).after 5 t = iblk m c 5 t := by dsimp only [dat0]
theorem after0_6 (c : Dev nD) (t : Fin cfg0.N) : (dat0 m c).after 6 t = iblk m c 6 t := by dsimp only [dat0]
theorem after0_7 (c : Dev nD) (t : Fin cfg0.N) : (dat0 m c).after 7 t = iblk m c 7 t := by dsimp only [dat0]
theorem after0_8 (c : Dev nD) (t : Fin cfg0.N) : (dat0 m c).after 8 t = outAt m c t := by dsimp only [dat0]
theorem before0_0 (c : Dev nD) (t : Fin cfg0.N) (d) : (dat0 m c).before 0 t d = iblk m c 0 t :=
  ((dat0 m c).before_in_eq_fetched 0 rfl (fun _ => rfl) (fun _ _ _ => rfl) (fun t => by rw [after0_0]; unfold Dat.blockOf iblk; rw [A0_eq]; try rfl) t d).trans
    (by unfold Dat.fetched Dat.blockOf iblk; rw [A0_eq]; try rfl)
theorem before0_1 (c : Dev nD) (t : Fin cfg0.N) (d) : (dat0 m c).before 1 t d = iblk m c 1 t :=
  ((dat0 m c).before_in_eq_fetched 1 rfl (fun _ => rfl) (fun _ _ _ => rfl) (fun t => by rw [after0_1]; unfold Dat.blockOf iblk; rw [A0_eq]; try rfl) t d).trans
    (by unfold Dat.fetched Dat.blockOf iblk; rw [A0_eq]; try rfl)
theorem before0_2 (c : Dev nD) (t : Fin cfg0.N) (d) : (dat0 m c).before 2 t d = iblk m c 2 t :=
  ((dat0 m c).before_in_eq_fetched 2 rfl (fun _ => rfl) (fun _ _ _ => rfl) (fun t => by rw [after0_2]; unfold Dat.blockOf iblk; rw [A0_eq]; try rfl) t d).trans
    (by unfold Dat.fetched Dat.blockOf iblk; rw [A0_eq]; try rfl)
theorem before0_3 (c : Dev nD) (t : Fin cfg0.N) (d) : (dat0 m c).before 3 t d = iblk m c 3 t :=
  ((dat0 m c).before_in_eq_fetched 3 rfl (fun _ => rfl) (fun _ _ _ => rfl) (fun t => by rw [after0_3]; unfold Dat.blockOf iblk; rw [A0_eq]; try rfl) t d).trans
    (by unfold Dat.fetched Dat.blockOf iblk; rw [A0_eq]; try rfl)
theorem before0_4 (c : Dev nD) (t : Fin cfg0.N) (d) : (dat0 m c).before 4 t d = iblk m c 4 t :=
  ((dat0 m c).before_in_eq_fetched 4 rfl (fun _ => rfl) (fun _ _ _ => rfl) (fun t => by rw [after0_4]; unfold Dat.blockOf iblk; rw [A0_eq]; try rfl) t d).trans
    (by unfold Dat.fetched Dat.blockOf iblk; rw [A0_eq]; try rfl)
theorem before0_5 (c : Dev nD) (t : Fin cfg0.N) (d) : (dat0 m c).before 5 t d = iblk m c 5 t :=
  ((dat0 m c).before_in_eq_fetched 5 rfl (fun _ => rfl) (fun _ _ _ => rfl) (fun t => by rw [after0_5]; unfold Dat.blockOf iblk; rw [A0_eq]; try rfl) t d).trans
    (by unfold Dat.fetched Dat.blockOf iblk; rw [A0_eq]; try rfl)
theorem before0_6 (c : Dev nD) (t : Fin cfg0.N) (d) : (dat0 m c).before 6 t d = iblk m c 6 t :=
  ((dat0 m c).before_in_eq_fetched 6 rfl (fun _ => rfl) (fun _ _ _ => rfl) (fun t => by rw [after0_6]; unfold Dat.blockOf iblk; rw [A0_eq]; try rfl) t d).trans
    (by unfold Dat.fetched Dat.blockOf iblk; rw [A0_eq]; try rfl)
theorem before0_7 (c : Dev nD) (t : Fin cfg0.N) (d) : (dat0 m c).before 7 t d = iblk m c 7 t :=
  ((dat0 m c).before_in_eq_fetched 7 rfl (fun _ => rfl) (fun _ _ _ => rfl) (fun t => by rw [after0_7]; unfold Dat.blockOf iblk; rw [A0_eq]; try rfl) t d).trans
    (by unfold Dat.fetched Dat.blockOf iblk; rw [A0_eq]; try rfl)
abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)

/-- What the body is called with at point `t`, -/
def bodyPre (c : Dev nD) (t : Fin cfg0.N) : sProp 𝕄 :=
  iprop((dat0 m c).Φ t.castSucc ∗ (dat0 m c).owesAt () t.castSucc
    ∗ (∃ d, owns (c : Thread nD τ) (ms0 t) fullShare ((dat0 m c).before 0 t d))
    ∗ (∃ d, owns (c : Thread nD τ) (ms1 t) fullShare ((dat0 m c).before 1 t d))
    ∗ (∃ d, owns (c : Thread nD τ) (ms2 t) fullShare ((dat0 m c).before 2 t d))
    ∗ (∃ d, owns (c : Thread nD τ) (ms3 t) fullShare ((dat0 m c).before 3 t d))
    ∗ (∃ d, owns (c : Thread nD τ) (ms4 t) fullShare ((dat0 m c).before 4 t d))
    ∗ (∃ d, owns (c : Thread nD τ) (ms5 t) fullShare ((dat0 m c).before 5 t d))
    ∗ (∃ d, owns (c : Thread nD τ) (ms6 t) fullShare ((dat0 m c).before 6 t d))
    ∗ (∃ d, owns (c : Thread nD τ) (ms7 t) fullShare ((dat0 m c).before 7 t d))
    ∗ (∃ d, owns (c : Thread nD τ) (ms8 t) fullShare ((dat0 m c).before 8 t d)))

/-- and what it returns. -/
def bodyPost (c : Dev nD) (t : Fin cfg0.N) : sProp 𝕄 :=
  iprop((dat0 m c).Φ t.succ ∗ (dat0 m c).owesAt () t.succ
    ∗ owns (c : Thread nD τ) (ms0 t) fullShare ((dat0 m c).after 0 t)
    ∗ owns (c : Thread nD τ) (ms1 t) fullShare ((dat0 m c).after 1 t)
    ∗ owns (c : Thread nD τ) (ms2 t) fullShare ((dat0 m c).after 2 t)
    ∗ owns (c : Thread nD τ) (ms3 t) fullShare ((dat0 m c).after 3 t)
    ∗ owns (c : Thread nD τ) (ms4 t) fullShare ((dat0 m c).after 4 t)
    ∗ owns (c : Thread nD τ) (ms5 t) fullShare ((dat0 m c).after 5 t)
    ∗ owns (c : Thread nD τ) (ms6 t) fullShare ((dat0 m c).after 6 t)
    ∗ owns (c : Thread nD τ) (ms7 t) fullShare ((dat0 m c).after 7 t)
    ∗ owns (c : Thread nD τ) (ms8 t) fullShare ((dat0 m c).after 8 t))

set_option maxHeartbeats 6400000 in
/-- The body at any point: its inputs hold their blocks; the first point of a batch starts from zero whatever the
    carried scratch holds, any other from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dat0 m c).owesAt () t.succ = (dat0 m c).owesAt () t.castSucc from rfl,
    after0_0, after0_1, after0_2, after0_3, after0_4, after0_5, after0_6, after0_7, after0_8]
  rw [show (dat0 m c).Φ t.succ = PhiN m c (t.val + 1) t.isLt from rfl, PhiN_pos m c _ _ (Nat.succ_ne_zero _),
    show (dat0 m c).Φ t.castSucc = PhiN m c t.val (Nat.le_of_lt t.isLt) from rfl,
    show stAt m c (t.val + 1) t.isLt = step m c t (start t.val (stAt m c t.val (Nat.le_of_lt t.isLt))) from rfl]
  unfold step outAt start
  have hN : t.val < 8 := lt_of_lt_of_eq t.isLt (show cfg0.N = 8 from N_0)
  by_cases h0 : t.val % 4 = 0
  · simp only [if_pos h0]
    refine (sep_mono (PhiN_forget m c t.val _) .rfl).trans ?_
    rw [Scr_eq]
    iintro ⟨⟨S0, S1, S2, S3, S4, S5, S6, S7, S8, S9, R0, R1, R2, R3, R4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ _ _ _ _ _ _ _ _ _ _ _ _ _ _ ((cond_iff t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iintro ⟨H0, H1, H2, H3, H4, H5, H6, H7, H8, S0, S1, S2, S3, S4, S5, S6, S7, S8, S9⟩
    isplitl [S0 S1 S2 S3 S4 S5 S6 S7 S8 S9 R0 R1 R2 R3 R4]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [R0]; · iexact R0
      isplitl [R1]; · iexact R1
      isplitl [R2]; · iexact R2
      isplitl [R3]; · iexact R3
      iexact R4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [if_neg h0]
    rw [PhiN_pos m c t.val _ (fun e => h0 (by rw [e]))]
    iintro ⟨⟨S0, S1, S2, S3, S4, S5, S6, S7, S8, S9, R0, R1, R2, R3, R4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ _ _ _ _ _ _ _ _ _ _ _ _ _ _ (fun h => h0 ((cond_iff t).mp h)) (iblk m c 0 t) (iblk m c 1 t) (iblk m c 2 t) (iblk m c 3 t) (iblk m c 4 t) (iblk m c 5 t) (iblk m c 6 t) (iblk m c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iintro ⟨H0, H1, H2, H3, H4, H5, H6, H7, H8, S0, S1, S2, S3, S4, S5, S6, S7, S8, S9⟩
    isplitl [S0 S1 S2 S3 S4 S5 S6 S7 S8 S9 R0 R1 R2 R3 R4]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [R0]; · iexact R0
      isplitl [R1]; · iexact R1
      isplitl [R2]; · iexact R2
      isplitl [R3]; · iexact R3
      iexact R4
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row0 (t : Fin cfg0.N) :
    defs₀ (F := F) .tc cfg0.body (cfg0.bodyArgs t (cfg0.slots t)) = bodyAt0 t := by
  unfold defs₀; rw [Defs.onTc_tc]

/-- The body obligation of the core kernel, at every point. -/
theorem body_obligation0 (c : Dev nD) : BodyObligation (dat0 (F := F) m c) (defs₀ (F := F)) Variants.none () Set.univ := fun t => by
  rw [bigSep_W0, bigSep_W0, defs₀_row0]
  exact triple_restated (sound_body m c t) rfl .rfl fun _ => .rfl

/-! ## The output projection's region -/

/-- What the first region leaves in its result, -/
def out5 (c : Dev nD) : Buf (Elt F) ((c : Thread nD τ).loc main_v5) := (dat0 m c).arrAt 8 cfg0.N
/-- the buffers after it, -/
abbrev U2 (c : Dev nD) : Valuation τ sig (Elt F) := Function.update (V1 m c) main_v5 (out5 m c)
/-- and when the second region is entered. -/
abbrev U3 (c : Dev nD) : Valuation τ sig (Elt F) := StableHlo.after hostOps1 (U2 m c)

/-- Window `w`'s block of the second region at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (U3 m c (Pipeline.arrRef spec1 w))

/-- The second region's proof data: the inputs left as fetched, the result's block their product. -/
def dat1 (c : Dev nD) : Dat τ (Elt F) Unit ℕ (UR sig nD τ) ℕ cfg1 c where
  A w := U3 m c (Pipeline.arrRef spec1 w)
  after w t := match w with
    | ⟨0, _⟩ => iblk1 m c 0 t
    | ⟨1, _⟩ => iblk1 m c 1 t
    | ⟨2, _⟩ => k1_pay1 (iblk1 m c 0 t) (iblk1 m c 1 t)
  Φ _ := Pipeline.scopedRest spec1 c
  q _ := fullShare
  owed _ := 0

theorem A1_eq (c : Dev nD) (w : Fin cfg1.W) : (dat1 m c).A w = U3 m c (Pipeline.arrRef spec1 w) := by
  dsimp only [dat1]
theorem after1_0 (c : Dev nD) (t : Fin cfg1.N) : (dat1 m c).after 0 t = iblk1 m c 0 t := by dsimp only [dat1]
theorem after1_1 (c : Dev nD) (t : Fin cfg1.N) : (dat1 m c).after 1 t = iblk1 m c 1 t := by dsimp only [dat1]
theorem after1_2 (c : Dev nD) (t : Fin cfg1.N) : (dat1 m c).after 2 t = k1_pay1 (iblk1 m c 0 t) (iblk1 m c 1 t) := by dsimp only [dat1]
theorem before1_0 (c : Dev nD) (t : Fin cfg1.N) (d) : (dat1 m c).before 0 t d = iblk1 m c 0 t :=
  ((dat1 m c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 m c).before 1 t d = iblk1 m c 1 t :=
  ((dat1 m c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)

/-- The second kernel's body on any blocks: the result is their product. -/
theorem run1 (c : Dev nD) (i : grid1.Coords) (arg1 : Memref sig .tc .vmem S512x2048 .f32) (harg1 : arg1.IsWhole) (arg2 : Memref sig .tc .vmem S1024x2048 .f32) (harg2 : arg2.IsWhole) (arg3 : Memref sig .tc .vmem S512x1024 .f32) (harg3 : arg3.IsWhole)
    (x0 : Vec F S512x2048 .f32) (x1 : Vec F S1024x2048 .f32) (E : Set ℕ) (K : PUnit → sProp 𝕄) :
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (k1_pay1 x0 x1)) -∗ K ⟨⟩))
          ⊢ wp frame (wpE (defs₀ (F := F)) Variants.none c none) E (cc1_mamba_outproj i arg1 harg1 arg2 harg2 arg3 harg3) K := by
  simp only [cc1_mamba_outproj_eq_skeleton]; unfold cc1_mamba_outproj_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  · iexists _; isplitr; swap; · iexact H2
    ipureintro
    sl_unfold_run_names
    rw [read_last (S := S512x1024) _ _ hz, at_whole (S := S512x2048) _ _ hz, at_whole (S := S1024x2048) _ _ hz, harg1.read_unread, harg2.read_unread]

theorem defs₀_row1 (t : Fin cfg1.N) :
    defs₀ (F := F) .tc cfg1.body (cfg1.bodyArgs t (cfg1.slots t)) = bodyAt1 t := by
  unfold defs₀; rw [Defs.onTc_tc]

/-- The body obligation of the second kernel, at every point. -/
theorem body_obligation1 (c : Dev nD) : BodyObligation (dat1 (F := F) m c) (defs₀ (F := F)) Variants.none () Set.univ := fun t => by
  rw [bigSep_W1, bigSep_W1, defs₀_row1]
  simp only [before1_0, before1_1, after1_0, after1_1, after1_2]
  rw [show (dat1 m c).owesAt () t.succ = (dat1 m c).owesAt () t.castSucc from rfl, show (dat1 m c).Φ t.succ = (dat1 m c).Φ t.castSucc from rfl]
  iintro ⟨Hr, Ho, ⟨%d0, H0⟩, ⟨%d1, H1⟩, ⟨%d2, H2⟩⟩
  iapply (run1 c (grid1.coords t) _ _ _ _ _ _ (iblk1 m c 0 t) (iblk1 m c 1 t) Set.univ _)
  isplitl [H0]; · iexact H0
  isplitl [H1]; · iexact H1
  isplitl [H2]; · iexists _; iexact H2
  iintro ⟨H0, H1, H2⟩
  isplitl [Hr]; · iexact Hr
  isplitl [Ho]; · iexact Ho
  isplitl [H0]; · iexact H0
  isplitl [H1]; · iexact H1
  iexact H2

/-- Both regions' proof data. -/
def dats : (p : Fin 2) → (c : Dev nD) → Dat τ (Elt F) Unit ℕ (UR sig nD τ) ℕ (cfgs p) c
  | ⟨0, _⟩, c => dat0 m c
  | ⟨1, _⟩, c => dat1 m c

end Cert.KernelIdeal.Core

end
-- ==== Proof.IdealCoreRun.lean ====
/-
  The run of @main: the two regions as segments between the host operations, and what every final state holds.
-/
module

public import proofs.«01_k».proof.Proof.IdealCoreData
public import Idealize.ShloMosaic.Lib.Pipeline.Regions
public import Idealize.ShloMosaic.Lib.Pipeline.RegionsLoop
public import proofs.«01_k».proof.Proof.Gen.KernelIdeal.Skeleton
public import proofs.«01_k».proof.Proof.Gen.KernelIdeal.Loops
public import Idealize.ShloMosaic.Lib.Pipeline.FrameBody
public import Idealize.ShloMosaic.Lib.Tactic
public import Idealize.ShloMosaic.Lib.ValueIdx

@[expose] public section

set_option maxRecDepth 16384

noncomputable section

namespace Cert.KernelIdeal.Core

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- What rides beside the buffers through @main: the core owes nothing. -/
abbrev R (c : Dev nD) : sProp 𝕄 := iprop(∃ W, owes (c : Thread nD τ) (0 : CellTallies nD τ sig Unit) W)

/-- What the second region leaves in its result, -/
def out7 (c : Dev nD) : Buf (Elt F) ((c : Thread nD τ).loc main_v7) := (dat1 m c).arrAt 2 cfg1.N
/-- and the buffers after it. -/
abbrev U4 (c : Dev nD) : Valuation τ sig (Elt F) := Function.update (U3 m c) main_v7 (out7 m c)

/-- Before the first point the invariant is the scoped rest. -/
theorem PhiN_start (c : Dev nD) : (Pipeline.scopedRest spec0 c : sProp 𝕄) ⊢ PhiN m c 0 (Nat.zero_le _) :=
  Entails.of_eq (if_pos rfl).symm

/-- After region 0 each of its arrays holds what `U2` says: an input what it held, the result what the points left. -/
theorem left0 (c : Dev nD) (w : Fin cfg0.W) : (dat0 m c).arrAt w cfg0.N = U2 m c (Pipeline.arrRef spec0 w) := by
  by_cases hw : w = 8
  · subst hw
    rw [show U2 m c (Pipeline.arrRef spec0 8) = out5 m c from
      Function.update_self (Proc.devRef .tc main_v5 : DevRef τ sig) (out5 m c) (V1 m c)]
    rfl
  · rw [(dat0 m c).arrAt_in w ((by decide : ∀ w : Fin 9, w ≠ 8 → (spec0 w).isOut = false) w hw), A0_eq]
    exact (Function.update_of_ne (StableHlo.devRef_ne_of_ne ((by decide : ∀ w : Fin 9, w ≠ 8 → Pipeline.arrRef spec0 w ≠ main_v5) w hw)) _ _).symm

/-- Off its arrays nothing changes. -/
theorem rest0 (c : Dev nD) (b : Ref sig .tc) (hb : b ∉ Finset.univ.image (Pipeline.arrRef spec0)) : U2 m c b = V1 m c b :=
  Function.update_of_ne (StableHlo.devRef_ne_of_ne (fun e => hb (Finset.mem_image.mpr ⟨8, Finset.mem_univ _, e.symm⟩))) _ _

/-- After region 1 each of its arrays holds what `U4` says: an input what it held, the result what the points left. -/
theorem left1 (c : Dev nD) (w : Fin cfg1.W) : (dat1 m c).arrAt w cfg1.N = U4 m c (Pipeline.arrRef spec1 w) := by
  by_cases hw : w = 2
  · subst hw
    rw [show U4 m c (Pipeline.arrRef spec1 2) = out7 m c from
      Function.update_self (Proc.devRef .tc main_v7 : DevRef τ sig) (out7 m c) (U3 m c)]
    rfl
  · rw [(dat1 m c).arrAt_in w ((by decide : ∀ w : Fin 3, w ≠ 2 → (spec1 w).isOut = false) w hw), A1_eq]
    exact (Function.update_of_ne (StableHlo.devRef_ne_of_ne ((by decide : ∀ w : Fin 3, w ≠ 2 → Pipeline.arrRef spec1 w ≠ main_v7) w hw)) _ _).symm

/-- Off its arrays nothing changes. -/
theorem rest1 (c : Dev nD) (b : Ref sig .tc) (hb : b ∉ Finset.univ.image (Pipeline.arrRef spec1)) : U4 m c b = U3 m c b :=
  Function.update_of_ne (StableHlo.devRef_ne_of_ne (fun e => hb (Finset.mem_image.mpr ⟨2, Finset.mem_univ _, e.symm⟩))) _ _

set_option maxHeartbeats 1000000 in
set_option backward.isDefEq.respectTransparency.types false in
/-- Region 0 as a segment of @main: entered from the unscoped buffers at `V1`, left with them at `U2`. -/
def reg0 : RegionSeg (pcfgs (F := F)) adm (dats m) () defs₀ Variants.none L lv 0 where
  win := launch0.win.to₀
  block_pos := launch0.block_pos
  stage_whole := launch0.stage_whole
  K := PEmpty
  osem := fun k => k.elim
  ho := Pipeline.OwnSemFacts.none _
  hbody c := (body_obligation0 m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (U2 m c) ∗ R c)
  X c := iprop(emp)
  Y c := iprop(emp)
  Z c := Pipeline.unscopedRest spec0 c (fun b => V1 m c b)
  hentry c := by
    rw [show StableHlo.held (c : Thread nD τ) (Pipeline.ucRefs τ sig) (V1 m c) = unscopedBufs c (fun b => V1 m c b)
      from (Pipeline.unscopedBufs_held c _).symm]
    have hsplit := Pipeline.arrays_of_unscopedBufs (p := 0) (pcfgs (F := F)) adm (dats m) launch0.win launch0.arr_whole c
      ((dats m 0 c).share_full fun _ => rfl) (fun b => V1 m c b) (A0_eq m c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    have h0 : (Pipeline.scopedRest spec0 c : sProp 𝕄) ⊢ (dats m 0 c).Φ 0 := PhiN_start m c
    refine BIBase.Entails.trans ?_ h0
    iintro ⟨-, -, Hr⟩
    iexact Hr
  hout c := by
    have h0 : (dats m 0 c).Φ (Fin.last _) ⊢ (Pipeline.scopedRest spec0 c : sProp 𝕄) := PhiN_forget m c cfg0.N le_rfl
    refine h0.trans ?_
    unfold Pipeline.ownSems0; rw [show (Finset.univ : Finset PEmpty) = ∅ from rfl, BI.bigSep_empty]
    iintro Hr
    isplitr; · iempintro
    isplitr; · iempintro
    iexact Hr
  hexit c := by
    rw [show StableHlo.held (c : Thread nD τ) (Pipeline.ucRefs τ sig) (U2 m c) = unscopedBufs c (fun b => U2 m c b)
      from (Pipeline.unscopedBufs_held c _).symm]
    have hjoin := Pipeline.unscopedBufs_of_arrays (p := 0) (pcfgs (F := F)) adm launch0.win launch0.arr_whole c (dats m)
      ((dats m 0 c).share_full fun _ => rfl) (fun b => V1 m c b) (fun b => U2 m c b) ((dats m 0 c).arrAt · cfg0.N)
      (left0 m c) (rest0 m c)
    iintro ⟨Ha, HO, -, HZ⟩
    ihave H := hjoin $$ [Ha HZ]
    · isplitl [Ha] <;> iassumption
    imodintro
    isplitl [H]; · iexact H
    unfold Pipeline.Dat.owesAt Pipeline.owesWithin
    icases HO with ⟨%W, -, HO⟩; iexists W; iexact HO

set_option maxHeartbeats 1000000 in
set_option backward.isDefEq.respectTransparency.types false in
/-- Region 1 as a segment of @main: entered from the unscoped buffers at `U3`, left with them at `U4`. -/
def reg1 : RegionSeg (pcfgs (F := F)) adm (dats m) () defs₀ Variants.none L lv 1 where
  win := launch1.win.to₀
  block_pos := launch1.block_pos
  stage_whole := launch1.stage_whole
  K := PEmpty
  osem := fun k => k.elim
  ho := Pipeline.OwnSemFacts.none _
  hbody c := (body_obligation1 m c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(emp)
  Y c := iprop(emp)
  Z c := Pipeline.unscopedRest spec1 c (fun b => U3 m c b)
  hentry c := by
    rw [show StableHlo.held (c : Thread nD τ) (Pipeline.ucRefs τ sig) (U3 m c) = unscopedBufs c (fun b => U3 m c b)
      from (Pipeline.unscopedBufs_held c _).symm]
    have hsplit := Pipeline.arrays_of_unscopedBufs (p := 1) (pcfgs (F := F)) adm (dats m) launch1.win launch1.arr_whole c
      ((dats m 1 c).share_full fun _ => rfl) (fun b => U3 m c b) (A1_eq m c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    have h0 : (Pipeline.scopedRest spec1 c : sProp 𝕄) ⊢ (dats m 1 c).Φ 0 := .rfl
    refine BIBase.Entails.trans ?_ h0
    iintro ⟨-, -, Hr⟩
    iexact Hr
  hout c := by
    have h0 : (dats m 1 c).Φ (Fin.last _) ⊢ (Pipeline.scopedRest spec1 c : sProp 𝕄) := .rfl
    refine h0.trans ?_
    unfold Pipeline.ownSems0; rw [show (Finset.univ : Finset PEmpty) = ∅ from rfl, BI.bigSep_empty]
    iintro Hr
    isplitr; · iempintro
    isplitr; · iempintro
    iexact Hr
  hexit c := by
    rw [show StableHlo.held (c : Thread nD τ) (Pipeline.ucRefs τ sig) (U4 m c) = unscopedBufs c (fun b => U4 m c b)
      from (Pipeline.unscopedBufs_held c _).symm]
    have hjoin := Pipeline.unscopedBufs_of_arrays (p := 1) (pcfgs (F := F)) adm launch1.win launch1.arr_whole c (dats m)
      ((dats m 1 c).share_full fun _ => rfl) (fun b => U3 m c b) (fun b => U4 m c b) ((dats m 1 c).arrAt · cfg1.N)
      (left1 m c) (rest1 m c)
    iintro ⟨Ha, HO, -, HZ⟩
    ihave H := hjoin $$ [Ha HZ]
    · isplitl [Ha] <;> iassumption
    imodintro
    isplitl [H]; · iexact H
    unfold Pipeline.Dat.owesAt Pipeline.owesWithin
    icases HO with ⟨%W, -, HO⟩; iexists W; iexact HO

/-- The contents the regions leave, as the host stretches between them take them. -/
def outs : Outs (F := F) := fun _ r c =>
  (Function.update (Function.update (fun b => m (c, b)) main_v5 (out5 m c)) main_v7 (out7 m c) : Valuation τ sig (Elt F)) r

theorem outs5 (c : Dev nD) : outs m 2 main_v5 c = out5 m c :=
  (Function.update_of_ne (StableHlo.devRef_ne_of_ne (by decide)) _ _).trans (Function.update_self _ _ _)
theorem outs7 (c : Dev nD) : outs m 4 main_v7 c = out7 m c := Function.update_self _ _ _
theorem V2_eq (c : Dev nD) : V2 m (outs m) c = U2 m c := by
  unfold V2; rw [outs5]
theorem V3_eq (c : Dev nD) : V3 m (outs m) c = U3 m c := by
  unfold V3; rw [V2_eq]
theorem V4_eq (c : Dev nD) : V4 m (outs m) c = U4 m c := by
  unfold V4; rw [V3_eq, outs7]

/-- The array @main returns. -/
def result (c : Dev nD) : Buf (Elt F) ((c : Thread nD τ).loc main_v8) := V5 m (outs m) c main_v8

/-- The pipeline library's algebra is the certificate's. -/
abbrev EP : Emb (UR sig nD τ) 𝕄 := emb₁

set_option maxHeartbeats 1000000 in
set_option backward.isDefEq.respectTransparency.types false in
/-- From any memory with zero counters every weakly fair execution of @main on the TensorCores terminates, nothing
    faulting, and every final state has the arguments as launched, the result at `result`, and every counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.mem ((c.tc : Thread nD τ).loc main_v8) = result m c)
      ∧ r.2.sem = fun _ => 0) := by
  refine Pipeline.θ_run_regions_kit_dev_sems (pcfgs (F := F)) adm (dats m) () cellOf_inj EP defs₀ Variants.none L lv m ρ main
    (segs m (outs m) Variants.none L lv (fun _ => R) () (dats m) (reg0 m) (reg1 m))
    (fun c Q => by
      rewrite [main_chain c, Seg.run_eq_chain,
        show (segs m (outs m) Variants.none L lv (fun _ => R) () (dats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c))
    (Tₙ := fun c => StableHlo.held (c : Thread nD τ) (Pipeline.ucRefs τ sig) (V5 m (outs m) c))
    (hch := fun c => ⟨.rfl, .rfl, sep_mono (Entails.of_eq (congrArg (fun V => StableHlo.held (c : Thread nD τ) (Pipeline.ucRefs τ sig) V) ((V2_eq m c).symm))) .rfl, sep_mono (Entails.of_eq (congrArg (fun V => StableHlo.held (c : Thread nD τ) (Pipeline.ucRefs τ sig) V) (V3_eq m c))) .rfl,
      sep_mono (Entails.of_eq (congrArg (fun V => StableHlo.held (c : Thread nD τ) (Pipeline.ucRefs τ sig) V) ((V4_eq m c).symm))) .rfl, .rfl⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9)) ∧ s.mem ((c.tc : Thread nD τ).loc main_v8) = result m c)
    (hfin := fun c s' => ?_) (hQ := fun _ h hz => ⟨h, funext fun g => hz g (.inr (regions_no_unscoped g.2))⟩)
  · unfold ownU
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have rd : ∀ b : Ref sig .tc, (Proc.devRef .tc b : DevRef τ sig).isScoped = false →
          s'.mem.mem ((c.tc : Thread nD τ).loc b) = V5 m (outs m) c b := fun b hb =>
        h (Proc.devRef .tc b) (Finset.mem_filter.mpr ⟨StableHlo.devRef_mem_tcRefs b, by rw [hb]; exact Bool.false_ne_true⟩)
      exact ⟨⟨(rd main_arg0 (by decide)).trans (V5_main_arg0 m (outs m) c), (rd main_arg1 (by decide)).trans (V5_main_arg1 m (outs m) c), (rd main_arg2 (by decide)).trans (V5_main_arg2 m (outs m) c), (rd main_arg3 (by decide)).trans (V5_main_arg3 m (outs m) c), (rd main_arg4 (by decide)).trans (V5_main_arg4 m (outs m) c), (rd main_arg5 (by decide)).trans (V5_main_arg5 m (outs m) c), (rd main_arg6 (by decide)).trans (V5_main_arg6 m (outs m) c), (rd main_arg7 (by decide)).trans (V5_main_arg7 m (outs m) c), (rd main_arg8 (by decide)).trans (V5_main_arg8 m (outs m) c), (rd main_arg9 (by decide)).trans (V5_main_arg9 m (outs m) c)⟩, rd main_v8 (by decide)⟩
    · iexact HSI

end Cert.KernelIdeal.Core

end
-- ==== Proof.IdealBlocks.lean ====
/-
  The blocks each point of the core kernel is handed, read at an index: the arguments, through the host operations before
  the first region.
-/
module

public import proofs.«01_k».proof.Proof.IdealPoint
public import proofs.«01_k».proof.Proof.IdealCoreRun
public import proofs.«01_k».proof.Proof.Gen.KernelIdeal.Points
public import Idealize.ShloMosaic.Lib.StableHlo.ReadAt
public import Idealize.ShloMosaic.Lib.Pipeline.ValueKit.Geometry

@[expose] public section

set_option maxRecDepth 16384

noncomputable section

namespace Cert.KernelIdeal.Core

open Idealize.ShloMosaic Idealize.ShloMosaic.TcCoe Idealize.ShloMosaic.StableHlo
open Cert.KernelIdeal Cert.KernelIdeal.Gen
open Cert.Model (Params)

variable (m : (ℓ : Loc nD τ sig) → Buf (Elt Ideal) ℓ)

/-- The arrays core `c` is handed. -/
def params (c : Dev nD) : Params := Model.ofArrays
  (fun b t k => m ((c.tc : Thread nD τ).loc main_arg0) (ix3 b t k : S2x1024x1024.Idx))
  (fun j k => m ((c.tc : Thread nD τ).loc main_arg1) (ix2 j k : S4096x1024.Idx))
  (fun d k => m ((c.tc : Thread nD τ).loc main_arg2) (ix3 d 0 k : S2048x1x4.Idx))
  (fun d => m ((c.tc : Thread nD τ).loc main_arg3) (ix1 d : S2048.Idx))
  (fun j d => m ((c.tc : Thread nD τ).loc main_arg4) (ix2 j d : S96x2048.Idx))
  (fun d r => m ((c.tc : Thread nD τ).loc main_arg5) (ix2 d r : S2048x64.Idx))
  (fun d => m ((c.tc : Thread nD τ).loc main_arg6) (ix1 d : S2048.Idx))
  (fun d => m ((c.tc : Thread nD τ).loc main_arg8) (ix1 d : S2048.Idx))
  (fun e d => m ((c.tc : Thread nD τ).loc main_arg9) (ix2 e d : S1024x2048.Idx))

/-! ## The host operations before the first region -/

/-- The taps, transposed. -/
theorem V1_v1 (c : Dev nD) (k : Fin 4) (d : Fin 2048) : V1 m c main_v1 (ix2 k d) = (params m c).cw d k := by
  after_reads_at
  rfl

/-- The convolution's bias as a row. -/
theorem V1_v2 (c : Dev nD) (d : Fin 2048) : V1 m c main_v2 (ix2 0 d) = (params m c).cb d := by
  after_reads_at
  rfl

/-- The step's bias as a row. -/
theorem V1_v3 (c : Dev nD) (d : Fin 2048) : V1 m c main_v3 (ix2 0 d) = (params m c).bd d := by
  after_reads_at
  rfl

/-- The skip weight as a row. -/
theorem V1_v4 (c : Dev nD) (d : Fin 2048) : V1 m c main_v4 (ix2 0 d) = (params m c).D d := by
  after_reads_at
  rfl

/-! ## The first region's blocks -/

/-- A point's batch and its block of 256 times. -/
theorem point_bounds (t : Fin cfg0.N) : t.val / 4 < 2 ∧ 256 * (t.val % 4) + 256 ≤ 1024 := by
  have ht : t.val < 8 := Nat.lt_of_lt_of_eq t.isLt N_0
  omega

/-- The first axis of the grid is the batch, the second the block of 256 times: the input's blocks -/
theorem index0_0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- and the result's. -/
theorem index0_8 : ∀ t : Fin cfg0.N, win0_8.index t 0 = t.val / 4 ∧ win0_8.index t 1 = t.val % 4 ∧ win0_8.index t 2 = 0 :=
  (by decide +kernel : ∀ t : Fin grid0.N, win0_8.index t 0 = t.val / 4 ∧ win0_8.index t 1 = t.val % 4 ∧ win0_8.index t 2 = 0)

/-- The input's block. -/
theorem iblk0_at (c : Dev nD) (t : Fin cfg0.N) (r : Fin 256) (k : Fin 1024) :
    (iblk m c 0 t : Vec Ideal S1x256x1024 .f32) (ix3 0 r k)
      = (params m c).x ⟨t.val / 4, (point_bounds t).1⟩ (256 * (t.val % 4) + r.val) k := by
  obtain ⟨e0, e1, e2⟩ := index0_0 t
  have hb := (point_bounds t).2
  have ht : 256 * (t.val % 4) + r.val < 1024 := by omega
  refine Eq.trans (b := m ((c.tc : Thread nD τ).loc main_arg0)
    (ix3 ⟨t.val / 4, (point_bounds t).1⟩ ⟨256 * (t.val % 4) + r.val, ht⟩ k : S2x1024x1024.Idx)) ?_
    (by simp only [params, Model.ofArrays, dif_pos ht])
  blk_simp [iblk]
  rw [V1_of m c main_arg0 (by decide)]
  refine congrArg (m ((c.tc : Thread nD τ).loc main_arg0)) (funext fun a => Fin.ext ?_)
  match a with
  | ⟨0, _⟩ => show ((win0_0.blk t).view.emb (ix3 0 r k) 0).val = t.val / 4; blk_simp; rw [e0]; simp [ix3]
  | ⟨1, _⟩ => show ((win0_0.blk t).view.emb (ix3 0 r k) 1).val = 256 * (t.val % 4) + r.val; blk_simp; rw [e1]; simp [ix3]; omega
  | ⟨2, _⟩ => show ((win0_0.blk t).view.emb (ix3 0 r k) 2).val = k.val; blk_simp; rw [e2]; simp [ix3]

/-- The first projection's one block is the array. -/
theorem iblk1_at (c : Dev nD) (t : Fin cfg0.N) (j : Fin 4096) (k : Fin 1024) : (iblk m c 1 t : Vec Ideal S4096x1024 .f32) (ix2 j k) = (params m c).W j k := by
  have e : win0_1.index t 0 = 0 ∧ win0_1.index t 1 = 0 :=
    (by decide +kernel : ∀ t : Fin grid0.N, win0_1.index t 0 = 0 ∧ win0_1.index t 1 = 0) t
  refine Eq.trans ?_ ((congrFun (V1_of m c main_arg1 (by decide)) _))
  blk_simp [iblk]
  refine congrArg (V1 m c (Proc.devRef .tc main_arg1)) (funext fun a => Fin.ext ?_)
  match a with
  | ⟨0, _⟩ => show ((win0_1.blk t).view.emb (ix2 j k) 0).val = _; blk_simp; rw [e.1]; simp [ix2]
  | ⟨1, _⟩ => show ((win0_1.blk t).view.emb (ix2 j k) 1).val = _; blk_simp; rw [e.2]; simp [ix2]

/-- The taps's one block is the array. -/
theorem iblk2_at (c : Dev nD) (t : Fin cfg0.N) (k : Fin 4) (d : Fin 2048) : (iblk m c 2 t : Vec Ideal S4x2048 .f32) (ix2 k d) = (params m c).cw d k := by
  have e : win0_2.index t 0 = 0 ∧ win0_2.index t 1 = 0 :=
    (by decide +kernel : ∀ t : Fin grid0.N, win0_2.index t 0 = 0 ∧ win0_2.index t 1 = 0) t
  refine Eq.trans ?_ (V1_v1 m c k d)
  blk_simp [iblk]
  refine congrArg (V1 m c (Proc.devRef .tc main_v1)) (funext fun a => Fin.ext ?_)
  match a with
  | ⟨0, _⟩ => show ((win0_2.blk t).view.emb (ix2 k d) 0).val = _; blk_simp; rw [e.1]; simp [ix2]
  | ⟨1, _⟩ => show ((win0_2.blk t).view.emb (ix2 k d) 1).val = _; blk_simp; rw [e.2]; simp [ix2]

/-- The convolution's bias's one block is the array. -/
theorem iblk3_at (c : Dev nD) (t : Fin cfg0.N) (d : Fin 2048) : (iblk m c 3 t : Vec Ideal S1x2048 .f32) (ix2 0 d) = (params m c).cb d := by
  have e : win0_3.index t 0 = 0 ∧ win0_3.index t 1 = 0 :=
    (by decide +kernel : ∀ t : Fin grid0.N, win0_3.index t 0 = 0 ∧ win0_3.index t 1 = 0) t
  refine Eq.trans ?_ (V1_v2 m c d)
  blk_simp [iblk]
  refine congrArg (V1 m c (Proc.devRef .tc main_v2)) (funext fun a => Fin.ext ?_)
  match a with
  | ⟨0, _⟩ => show ((win0_3.blk t).view.emb (ix2 0 d) 0).val = _; blk_simp; rw [e.1]; simp [ix2]
  | ⟨1, _⟩ => show ((win0_3.blk t).view.emb (ix2 0 d) 1).val = _; blk_simp; rw [e.2]; simp [ix2]

/-- The second projection's one block is the array. -/
theorem iblk4_at (c : Dev nD) (t : Fin cfg0.N) (j : Fin 96) (d : Fin 2048) : (iblk m c 4 t : Vec Ideal S96x2048 .f32) (ix2 j d) = (params m c).Wx j d := by
  have e : win0_4.index t 0 = 0 ∧ win0_4.index t 1 = 0 :=
    (by decide +kernel : ∀ t : Fin grid0.N, win0_4.index t 0 = 0 ∧ win0_4.index t 1 = 0) t
  refine Eq.trans ?_ ((congrFun (V1_of m c main_arg4 (by decide)) _))
  blk_simp [iblk]
  refine congrArg (V1 m c (Proc.devRef .tc main_arg4)) (funext fun a => Fin.ext ?_)
  match a with
  | ⟨0, _⟩ => show ((win0_4.blk t).view.emb (ix2 j d) 0).val = _; blk_simp; rw [e.1]; simp [ix2]
  | ⟨1, _⟩ => show ((win0_4.blk t).view.emb (ix2 j d) 1).val = _; blk_simp; rw [e.2]; simp [ix2]

/-- The step's projection's one block is the array. -/
theorem iblk5_at (c : Dev nD) (t : Fin cfg0.N) (d : Fin 2048) (r : Fin 64) : (iblk m c 5 t : Vec Ideal S2048x64 .f32) (ix2 d r) = (params m c).Wd d r := by
  have e : win0_5.index t 0 = 0 ∧ win0_5.index t 1 = 0 :=
    (by decide +kernel : ∀ t : Fin grid0.N, win0_5.index t 0 = 0 ∧ win0_5.index t 1 = 0) t
  refine Eq.trans ?_ ((congrFun (V1_of m c main_arg5 (by decide)) _))
  blk_simp [iblk]
  refine congrArg (V1 m c (Proc.devRef .tc main_arg5)) (funext fun a => Fin.ext ?_)
  match a with
  | ⟨0, _⟩ => show ((win0_5.blk t).view.emb (ix2 d r) 0).val = _; blk_simp; rw [e.1]; simp [ix2]
  | ⟨1, _⟩ => show ((win0_5.blk t).view.emb (ix2 d r) 1).val = _; blk_simp; rw [e.2]; simp [ix2]

/-- The step's bias's one block is the array. -/
theorem iblk6_at (c : Dev nD) (t : Fin cfg0.N) (d : Fin 2048) : (iblk m c 6 t : Vec Ideal S1x2048 .f32) (ix2 0 d) = (params m c).bd d := by
  have e : win0_6.index t 0 = 0 ∧ win0_6.index t 1 = 0 :=
    (by decide +kernel : ∀ t : Fin grid0.N, win0_6.index t 0 = 0 ∧ win0_6.index t 1 = 0) t
  refine Eq.trans ?_ (V1_v3 m c d)
  blk_simp [iblk]
  refine congrArg (V1 m c (Proc.devRef .tc main_v3)) (funext fun a => Fin.ext ?_)
  match a with
  | ⟨0, _⟩ => show ((win0_6.blk t).view.emb (ix2 0 d) 0).val = _; blk_simp; rw [e.1]; simp [ix2]
  | ⟨1, _⟩ => show ((win0_6.blk t).view.emb (ix2 0 d) 1).val = _; blk_simp; rw [e.2]; simp [ix2]

/-- The skip weight's one block is the array. -/
theorem iblk7_at (c : Dev nD) (t : Fin cfg0.N) (d : Fin 2048) : (iblk m c 7 t : Vec Ideal S1x2048 .f32) (ix2 0 d) = (params m c).D d := by
  have e : win0_7.index t 0 = 0 ∧ win0_7.index t 1 = 0 :=
    (by decide +kernel : ∀ t : Fin grid0.N, win0_7.index t 0 = 0 ∧ win0_7.index t 1 = 0) t
  refine Eq.trans ?_ (V1_v4 m c d)
  blk_simp [iblk]
  refine congrArg (V1 m c (Proc.devRef .tc main_v4)) (funext fun a => Fin.ext ?_)
  match a with
  | ⟨0, _⟩ => show ((win0_7.blk t).view.emb (ix2 0 d) 0).val = _; blk_simp; rw [e.1]; simp [ix2]
  | ⟨1, _⟩ => show ((win0_7.blk t).view.emb (ix2 0 d) 1).val = _; blk_simp; rw [e.2]; simp [ix2]

/-- So a point's blocks are the arrays' at its batch and first time. -/
theorem blocks (c : Dev nD) (t : Fin cfg0.N) : Blocks (params m c) ⟨t.val / 4, (point_bounds t).1⟩ (256 * (t.val % 4))
    (iblk m c 0 t) (iblk m c 1 t) (iblk m c 2 t) (iblk m c 3 t) (iblk m c 4 t) (iblk m c 5 t) (iblk m c 6 t) (iblk m c 7 t) where
  h0 := iblk0_at m c t
  h1 := iblk1_at m c t
  h2 := iblk2_at m c t
  h3 := iblk3_at m c t
  h4 := iblk4_at m c t
  h5 := iblk5_at m c t
  h6 := iblk6_at m c t
  h7 := iblk7_at m c t

end Cert.KernelIdeal.Core

end
-- ==== Proof.IdealResult.lean ====
/-
  The array @main returns, read at an index: each point of the core kernel starts from the history and the state the
  block's mathematics has at its first time, so its result is the mathematics'; the second region multiplies by the output
  projection.
-/
module

public import proofs.«01_k».proof.Proof.IdealBlocks
public import proofs.«01_k».proof.Proof.IdealCoreRun
public import proofs.«01_k».proof.Proof.Gen.KernelIdeal.Points
public import Idealize.ShloMosaic.Lib.StableHlo.ReadAt
public import Idealize.ShloMosaic.Lib.Pipeline.ValueKit.Geometry

@[expose] public section

set_option maxRecDepth 16384

noncomputable section

namespace Cert.KernelIdeal.Core

open Idealize.ShloMosaic Idealize.ShloMosaic.TcCoe Idealize.ShloMosaic.StableHlo
open Cert.KernelIdeal Cert.KernelIdeal.Gen
open Cert.Model (Params)

variable (m : (ℓ : Loc nD τ sig) → Buf (Elt Ideal) ℓ)

/-! ## The carried scratch, point by point -/

/-- At the first point of a batch the history and the state are zero, as the mathematics has them at time zero. -/
theorem start_zero (P : Params) (b : Fin 2) (n : ℕ) (hn : n % 4 = 0) (p : Vec Ideal S8x2048 .f32 × Vec Ideal S16x2048 .f32) :
    (∀ (r : Fin 8) (d : Fin 2048), (start n p).1 (ix2 r d) = Model.late P b (256 * (n % 4) + r.val) d)
    ∧ ∀ (i : Fin 16) (d : Fin 2048), (start n p).2 (ix2 i d) = Model.h P b d i (256 * (n % 4)) := by
  unfold start
  rw [if_pos hn, hn]
  constructor
  · intro r d
    show k0_pay7 (F := Ideal) (ix2 r d) = _
    pointwise [k0_pay7]
    exact (if_neg (by omega)).symm
  · intro i d
    show k0_pay25 (F := Ideal) (ix2 i d) = _
    pointwise [k0_pay25]
    rfl

/-- A point takes the history and the state at its first time to those 256 times later. -/
theorem step_at (c : Dev nD) (t : Fin cfg0.N) (q : Vec Ideal S8x2048 .f32 × Vec Ideal S16x2048 .f32)
    (h1 : ∀ (r : Fin 8) (d : Fin 2048), q.1 (ix2 r d)
      = Model.late (params m c) ⟨t.val / 4, (point_bounds t).1⟩ (256 * (t.val % 4) + r.val) d)
    (h2 : ∀ (i : Fin 16) (d : Fin 2048), q.2 (ix2 i d)
      = Model.h (params m c) ⟨t.val / 4, (point_bounds t).1⟩ d i (256 * (t.val % 4))) :
    (∀ (r : Fin 8) (d : Fin 2048), (step m c t q).1 (ix2 r d)
      = Model.late (params m c) ⟨t.val / 4, (point_bounds t).1⟩ (256 * (t.val % 4) + 256 + r.val) d)
    ∧ ∀ (i : Fin 16) (d : Fin 2048), (step m c t q).2 (ix2 i d)
      = Model.h (params m c) ⟨t.val / 4, (point_bounds t).1⟩ d i (256 * (t.val % 4) + 256) := by
  have H := blocks m c t
  have e1 := histB_at (hi := q.1) H h1
  have e2 := hB_at (hi := q.1) (h0 := q.2) H h1 h2
  have e : step m c t q = (histB q.1 (xpB (iblk m c 0 t) (iblk m c 1 t)),
    hB (iblk m c 0 t) (iblk m c 1 t) (iblk m c 2 t) (iblk m c 3 t) (iblk m c 4 t) (iblk m c 5 t) (iblk m c 6 t) q.1 q.2) := rfl
  rw [e]
  dsimp only
  exact ⟨e1, e2⟩

/-- What a point starts from is the mathematics' at its first time. -/
theorem start_at (c : Dev nD) : ∀ (n : ℕ) (hn : n < cfg0.N),
    (∀ (r : Fin 8) (d : Fin 2048), (start n (stAt m c n hn.le)).1 (ix2 r d)
        = Model.late (params m c) ⟨n / 4, (point_bounds ⟨n, hn⟩).1⟩ (256 * (n % 4) + r.val) d)
    ∧ ∀ (i : Fin 16) (d : Fin 2048), (start n (stAt m c n hn.le)).2 (ix2 i d)
        = Model.h (params m c) ⟨n / 4, (point_bounds ⟨n, hn⟩).1⟩ d i (256 * (n % 4))
  | 0, hn => start_zero (params m c) ⟨0 / 4, (point_bounds ⟨0, hn⟩).1⟩ 0 (Nat.zero_mod 4) (stAt m c 0 hn.le)
  | n + 1, hn => by
    by_cases h4 : (n + 1) % 4 = 0
    · exact start_zero (params m c) ⟨(n + 1) / 4, (point_bounds ⟨n + 1, hn⟩).1⟩ (n + 1) h4 (stAt m c (n + 1) hn.le)
    · have hn' : n < cfg0.N := Nat.lt_of_succ_lt hn
      obtain ⟨ih1, ih2⟩ := start_at c n hn'
      have eb : (⟨(n + 1) / 4, (point_bounds ⟨n + 1, hn⟩).1⟩ : Fin 2) = ⟨n / 4, (point_bounds ⟨n, hn'⟩).1⟩ :=
        Fin.ext (by show (n + 1) / 4 = n / 4; omega)
      have eT : 256 * ((n + 1) % 4) = 256 * (n % 4) + 256 := by omega
      have es : start (n + 1) (stAt m c (n + 1) hn.le) = step m c ⟨n, hn'⟩ (start n (stAt m c n hn'.le)) := if_neg h4
      rw [eb, eT, es]
      exact step_at m c ⟨n, hn'⟩ (start n (stAt m c n hn'.le)) ih1 ih2

/-- So the block of the result a point leaves is the mathematics'. -/
theorem outAt_at (c : Dev nD) (t : Fin cfg0.N) (r : Fin 256) (d : Fin 2048) :
    outAt m c t (ix3 0 r d) = Model.core (params m c) ⟨t.val / 4, (point_bounds t).1⟩ (256 * (t.val % 4) + r.val) d :=
  outB_at (blocks m c t) (start_at m c t.val t.isLt).1 (start_at m c t.val t.isLt).2 r d

/-- The first region's result: its eight blocks cover the array. -/
theorem out5_eq (c : Dev nD) : out5 m c = fun i : S2x1024x2048.Idx => Model.core (params m c) (i 0) (i 1).val (i 2) := by
  refine (dat0 m c).arrAt_eq_of_covers 8 _ (by decide +kernel) fun t hf y => ?_
  blk_simp
  rw [after0_8]
  obtain ⟨e0, e1, e2⟩ := index0_8 t
  have hy : (y : S1x256x2048.Idx) = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  have h0 : (win0_8.blk t).view.emb y 0 = (⟨t.val / 4, (point_bounds t).1⟩ : Fin 2) := Fin.ext (by
    have h : (y 0).val < 1 := (y 0).isLt
    show ((win0_8.blk t).view.emb y 0).val = t.val / 4
    blk_simp; omega)
  have h2 : (win0_8.blk t).view.emb y 2 = (y 2 : Fin 2048) := Fin.ext (by
    show ((win0_8.blk t).view.emb y 2).val = (y 2).val
    blk_simp; rw [e2]; omega)
  rw [h0, h2, e1, Nat.mul_comm (t.val % 4) 256]
  exact (congrArg (outAt m c t) hy).trans (outAt_at m c t (y 1) (y 2))

/-! ## The second region and the result -/

/-- The second region's input: the first's result with batch and time one axis. -/
theorem U3_v6 (c : Dev nD) (i : Fin 2048) (d : Fin 2048) :
    U3 m c main_v6 (ix2 i d) = Model.core (params m c) ⟨i.val / 1024, by omega⟩ (i.val % 1024) d := by
  after_reads_at
  rw [show U2 m c (Proc.tc.devRef main_v5) = out5 m c from
    Function.update_self (Proc.devRef .tc main_v5 : DevRef τ sig) (out5 m c) (V1 m c), out5_eq]
  rfl

/-- The output projection reaches the second region as launched. -/
theorem U3_arg9 (c : Dev nD) : U3 m c main_arg9 = m ((c.tc : Thread nD τ).loc main_arg9) :=
  (StableHlo.after_of_writes_sub hostOps1 _ hostOps1_writes (by decide)).trans
    ((Function.update_of_ne (StableHlo.devRef_ne_of_ne (by decide)) _ _).trans (V1_of m c main_arg9 (by decide)))

/-- The second region's blocks of 512 rows. -/
theorem index1 : ∀ t : Fin cfg1.N, (win1_0.index t 0 = t.val ∧ win1_0.index t 1 = 0)
    ∧ (win1_1.index t 0 = 0 ∧ win1_1.index t 1 = 0) ∧ (win1_2.index t 0 = t.val ∧ win1_2.index t 1 = 0) :=
  (by decide +kernel : ∀ t : Fin grid1.N, (win1_0.index t 0 = t.val ∧ win1_0.index t 1 = 0)
    ∧ (win1_1.index t 0 = 0 ∧ win1_1.index t 1 = 0) ∧ (win1_2.index t 0 = t.val ∧ win1_2.index t 1 = 0))

/-- There are four. -/
theorem rows_bound (t : Fin cfg1.N) : t.val * 512 + 512 ≤ 2048 := by
  have ht : t.val < 4 := Nat.lt_of_lt_of_eq t.isLt N_1
  omega

/-- The core's rows at a point of the second region, -/
theorem iblk1_0_at (c : Dev nD) (t : Fin cfg1.N) (r : Fin 512) (d : Fin 2048) :
    (iblk1 m c 0 t : Vec Ideal S512x2048 .f32) (ix2 r d)
      = Model.core (params m c) ⟨(t.val * 512 + r.val) / 1024, by have := rows_bound t; omega⟩ ((t.val * 512 + r.val) % 1024) d := by
  obtain ⟨e, -, -⟩ := index1 t
  have hb := rows_bound t
  refine Eq.trans ?_ (U3_v6 m c ⟨t.val * 512 + r.val, by omega⟩ d)
  blk_simp [iblk1]
  refine congrArg (U3 m c (Proc.devRef .tc main_v6)) (funext fun a => Fin.ext ?_)
  match a with
  | ⟨0, _⟩ => show ((win1_0.blk t).view.emb (ix2 r d) 0).val = t.val * 512 + r.val; blk_simp; rw [e.1]
  | ⟨1, _⟩ => show ((win1_0.blk t).view.emb (ix2 r d) 1).val = d.val; blk_simp; rw [e.2]; simp [ix2]

/-- and the output projection. -/
theorem iblk1_1_at (c : Dev nD) (t : Fin cfg1.N) (e : Fin 1024) (d : Fin 2048) :
    (iblk1 m c 1 t : Vec Ideal S1024x2048 .f32) (ix2 e d) = (params m c).Wo e d := by
  obtain ⟨-, h, -⟩ := index1 t
  refine Eq.trans ?_ (congrFun (U3_arg9 m c) (ix2 e d : S1024x2048.Idx))
  blk_simp [iblk1]
  refine congrArg (U3 m c (Proc.devRef .tc main_arg9)) (funext fun a => Fin.ext ?_)
  match a with
  | ⟨0, _⟩ => show ((win1_1.blk t).view.emb (ix2 e d) 0).val = e.val; blk_simp; rw [h.1]; simp [ix2]
  | ⟨1, _⟩ => show ((win1_1.blk t).view.emb (ix2 e d) 1).val = d.val; blk_simp; rw [h.2]; simp [ix2]

/-- A block of the second region's result is the product. -/
theorem k1_pay1_at (A : Vec Ideal S512x2048 .f32) (B : Vec Ideal S1024x2048 .f32) (r : Fin 512) (e : Fin 1024) :
    k1_pay1 A B (ix2 r e) = ∑ d : Fin 2048, A (ix2 r d) * B (ix2 e d) := by
  pointwise [k1_pay1]

/-- So a block of the second region's result is the mathematics'. -/
theorem prod_at (c : Dev nD) (t : Fin cfg1.N) (r : Fin 512) (e : Fin 1024) :
    k1_pay1 (F := Ideal) (iblk1 m c 0 t) (iblk1 m c 1 t) (ix2 r e)
      = Model.out (params m c) ⟨(t.val * 512 + r.val) / 1024, by have := rows_bound t; omega⟩ ((t.val * 512 + r.val) % 1024) e :=
  (k1_pay1_at _ _ r e).trans
    (Finset.sum_congr rfl fun d _ => congrArg₂ (· * ·) (iblk1_0_at m c t r d) (iblk1_1_at m c t e d))

/-- The second region's result: its four blocks cover the array. -/
theorem out7_eq (c : Dev nD) : out7 m c = fun i : S2048x1024.Idx =>
    Model.out (params m c) ⟨(i 0).val / 1024, by have h : (i 0).val < 2048 := (i 0).isLt; omega⟩ ((i 0).val % 1024) (i 1) := by
  refine (dat1 m c).arrAt_eq_of_covers 2 _ (by decide +kernel) fun t hf y => ?_
  blk_simp
  obtain ⟨-, -, h⟩ := index1 t
  have hy : (y : S512x1024.Idx) = ix2 (y 0) (y 1) := by
    funext a
    match a with
    | ⟨0, _⟩ => rfl
    | ⟨1, _⟩ => rfl
  have h1 : (win1_2.blk t).view.emb y 1 = (y 1 : Fin 1024) := Fin.ext (by
    show ((win1_2.blk t).view.emb y 1).val = (y 1).val
    blk_simp; rw [h.2]; omega)
  rw [h1]
  refine ((congrArg (k1_pay1 (F := Ideal) (iblk1 m c 0 t) (iblk1 m c 1 t)) hy).trans (prod_at m c t (y 0) (y 1))).trans ?_
  simp only [h.1]

/-- The array @main returns is the mathematics'. -/
theorem result_at (c : Dev nD) (b : Fin 2) (t e : Fin 1024) :
    result m c (ix3 b t e) = Model.out (params m c) b t.val e := by
  unfold result
  after_reads_at
  rw [V4_eq, show U4 m c (Proc.tc.devRef main_v7) = out7 m c from
    Function.update_self (Proc.devRef .tc main_v7 : DevRef τ sig) (out7 m c) (U3 m c), out7_eq]
  show Model.out (params m c) ⟨(b.val * 1024 + t.val) / 1024, _⟩ ((b.val * 1024 + t.val) % 1024) e = _
  congr 1
  · exact Fin.ext (by show (b.val * 1024 + t.val) / 1024 = b.val; omega)
  · omega

end Cert.KernelIdeal.Core

end
-- ==== Proof.RefRead.lean ====
/-
  The reference's host operations before its loop, each stretch read at an index as an expression of the contents it
  starts from.
-/
module

public import proofs.«01_k».proof.Proof.Model
public import proofs.«01_k».proof.Proof.Gen.ReferenceIdeal.Run
public import Idealize.ShloMosaic.Lib.Pointwise
public import Idealize.ShloMosaic.Lib.StableHlo.ReadAt

@[expose] public section

set_option maxRecDepth 16384

noncomputable section

namespace Cert.ReferenceIdeal.Read

open Idealize.ShloMosaic Idealize.ShloMosaic.TcCoe Idealize.ShloMosaic.StableHlo
open Cert.ReferenceIdeal Cert.ReferenceIdeal.Gen Cert.ReferenceIdeal.Value

variable (V : Valuation τ sig (Elt Ideal))

/-! ## The buffers read, at their types -/

/-- Argument 0. -/
abbrev x : FVec Ideal S2x1024x1024 .f32 := V (Proc.devRef .tc main_arg0)
/-- Argument 1. -/
abbrev W : FVec Ideal S4096x1024 .f32 := V (Proc.devRef .tc main_arg1)
/-- Argument 2. -/
abbrev cw : FVec Ideal S2048x1x4 .f32 := V (Proc.devRef .tc main_arg2)
/-- Argument 3. -/
abbrev cb : FVec Ideal S2048 .f32 := V (Proc.devRef .tc main_arg3)
/-- Argument 4. -/
abbrev Wx : FVec Ideal S96x2048 .f32 := V (Proc.devRef .tc main_arg4)
/-- Argument 5. -/
abbrev Wd : FVec Ideal S2048x64 .f32 := V (Proc.devRef .tc main_arg5)
/-- Argument 6. -/
abbrev bd : FVec Ideal S2048 .f32 := V (Proc.devRef .tc main_arg6)
/-- Argument 7. -/
abbrev A : FVec Ideal S2048x16 .f32 := V (Proc.devRef .tc main_arg7)
/-- Argument 8. -/
abbrev D : FVec Ideal S2048 .f32 := V (Proc.devRef .tc main_arg8)
/-- Argument 9. -/
abbrev Wo : FVec Ideal S1024x2048 .f32 := V (Proc.devRef .tc main_arg9)
/-- Value 1 of the program. -/
abbrev v1 : FVec Ideal S2x1024x2048 .f32 := V (Proc.devRef .tc main_v1)
/-- Value 2 of the program. -/
abbrev v2 : FVec Ideal S2x1024x2048 .f32 := V (Proc.devRef .tc main_v2)
/-- Value 3 of the program. -/
abbrev v3 : FVec Ideal S2x1027x2048 .f32 := V (Proc.devRef .tc main_v3)
/-- Value 35 of the program. -/
abbrev v35 : FVec Ideal S2x1024x2048 .f32 := V (Proc.devRef .tc main_v35)
/-- Value 42 of the program. -/
abbrev v42 : FVec Ideal S2x1024x2048 .f32 := V (Proc.devRef .tc main_v42)
/-- Value 43 of the program. -/
abbrev v43 : FVec Ideal S2x1024x96 .f32 := V (Proc.devRef .tc main_v43)
/-- Value 45 of the program. -/
abbrev v45 : FVec Ideal S2x1024x16 .f32 := V (Proc.devRef .tc main_v45)
/-- Value 46 of the program. -/
abbrev v46 : FVec Ideal S2x1024x16 .f32 := V (Proc.devRef .tc main_v46)
/-- Value 50 of the program. -/
abbrev v50 : FVec Ideal S2x1024x2048 .f32 := V (Proc.devRef .tc main_v50)
/-- Value 52 of the program. -/
abbrev v52 : FVec Ideal S2048x16 .f32 := V (Proc.devRef .tc main_v52)
/-- Value 53 of the program. -/
abbrev v53 : FVec Ideal S2x1024x2048 .f32 := V (Proc.devRef .tc main_v53)
/-- Value 65 of the program. -/
abbrev v65 : FVec Ideal S2x1024x2048x16 .f32 := V (Proc.devRef .tc main_v65)
/-- Value 73 of the program. -/
abbrev v73 : FVec Ideal S2x1024x2048x16 .f32 := V (Proc.devRef .tc main_v73)
/-- Value 74 of the program. -/
abbrev v74 : FVec Ideal S2x1024x2048x16 .f32 := V (Proc.devRef .tc main_v74)
/-- Value 79 of tuple, field 0 of the program. -/
abbrev v79_0 : FVec Ideal S1024x2x2048x16 .f32 := V (Proc.devRef .tc main_v79_0)
/-- Value 79 of tuple, field 1 of the program. -/
abbrev v79_1 : FVec Ideal S1024x2x2048x16 .f32 := V (Proc.devRef .tc main_v79_1)
/-- Value 79 of tuple, field 3 of the program. -/
abbrev v79_3 : FVec Ideal S2x2048x16 .f32 := V (Proc.devRef .tc main_v79_3)
/-- Value 79 of tuple, field 4 of the program. -/
abbrev v79_4 : FVec Ideal S1024x2x2048x16 .f32 := V (Proc.devRef .tc main_v79_4)
/-- Value 85 of the program. -/
abbrev v85 : FVec Ideal S2x1024x2048 .f32 := V (Proc.devRef .tc main_v85)
/-- Value 86 of the program. -/
abbrev v86 : FVec Ideal S2x1024x2048 .f32 := V (Proc.devRef .tc main_v86)
/-- Value 95 of the program. -/
abbrev v95 : FVec Ideal S2x1024x1024 .f32 := V (Proc.devRef .tc main_v95)

/-! ## The input projection and the padding -/

/-- The x half of the input projection. -/
theorem v1_at (b : Fin 2) (t : Fin 1024) (d : Fin 2048) :
    v1 (after hostOps0 V) (ix3 b t d) = ∑ k : Fin 1024, x V (ix3 b t k) * W V (ix2 ⟨d.val, by omega⟩ k) := by
  after_reads_at

/-- Its z half. -/
theorem v2_at (b : Fin 2) (t : Fin 1024) (d : Fin 2048) :
    v2 (after hostOps0 V) (ix3 b t d) = ∑ k : Fin 1024, x V (ix3 b t k) * W V (ix2 ⟨2048 + d.val, by omega⟩ k) := by
  after_reads_at

/-- The padding's value is the integer zero. -/
theorem c_at : after hostOps0 V (Proc.devRef .tc main_c) = constantI S_ 32 0#32 := by
  after_reads_simp

/-- The x half with three rows of zeros before it. -/
theorem v3_at (h0 : V (Proc.devRef .tc main_c) = constantI S_ 32 0#32) (b : Fin 2) (s : Fin 1027) (d : Fin 2048) :
    v3 (after hostOps0_1 V) (ix3 b s d)
      = if h : 3 ≤ s.val then v1 V (ix3 b ⟨s.val - 3, by omega⟩ d) else 0 := by
  after_reads_at
  rw [h0]
  by_cases h : 3 ≤ s.val
  · rw [dif_pos h, dif_pos ⟨h, by omega⟩]
  · rw [dif_neg h, dif_neg (fun hh => h hh.1)]
    simp [constantI, FloatOps.sitofp]

/-! ## The convolution and the projections of its activation -/

/-- The convolution: four taps over four rows of the padded x half, and the bias. -/
theorem v35_at (b : Fin 2) (t : Fin 1024) (d : Fin 2048) :
    v35 (after hostOps0_2 V) (ix3 b t d)
      = cw V (ix3 d 0 0) * v3 V (ix3 b ⟨t.val, by omega⟩ d) + cw V (ix3 d 0 1) * v3 V (ix3 b ⟨1 + t.val, by omega⟩ d)
        + cw V (ix3 d 0 2) * v3 V (ix3 b ⟨2 + t.val, by omega⟩ d) + cw V (ix3 d 0 3) * v3 V (ix3 b ⟨3 + t.val, by omega⟩ d)
        + cb V (ix1 d) := by
  after_reads_at

/-- The convolution activated. -/
theorem v42_at (b : Fin 2) (t : Fin 1024) (d : Fin 2048) :
    v42 (after hostOps0_2 V) (ix3 b t d) = Model.silu (v35 (after hostOps0_2 V) (ix3 b t d)) := by
  after_reads_at
  rfl

/-- The 96 numbers. -/
theorem v43_at (b : Fin 2) (t : Fin 1024) (j : Fin 96) :
    v43 (after hostOps0_2 V) (ix3 b t j) = ∑ d : Fin 2048, v42 (after hostOps0_2 V) (ix3 b t d) * Wx V (ix2 j d) := by
  after_reads_at

/-- The sixteen numbers `B`. -/
theorem v45_at (b : Fin 2) (t : Fin 1024) (n : Fin 16) :
    v45 (after hostOps0_2 V) (ix3 b t n) = v43 (after hostOps0_2 V) (ix3 b t ⟨64 + n.val, by omega⟩) := by
  after_reads_at

/-- The sixteen numbers `C`. -/
theorem v46_at (b : Fin 2) (t : Fin 1024) (n : Fin 16) :
    v46 (after hostOps0_2 V) (ix3 b t n) = v43 (after hostOps0_2 V) (ix3 b t ⟨80 + n.val, by omega⟩) := by
  after_reads_at

/-- The step before its softplus. -/
theorem v50_at (b : Fin 2) (t : Fin 1024) (d : Fin 2048) :
    v50 (after hostOps0_2 V) (ix3 b t d)
      = (∑ r : Fin 64, v43 (after hostOps0_2 V) (ix3 b t ⟨r.val, by omega⟩) * Wd V (ix2 d r)) + bd V (ix1 d) := by
  after_reads_at

/-- Minus the exponential of the log of the state matrix. -/
theorem v52_at (d : Fin 2048) (n : Fin 16) : v52 (after hostOps0_2 V) (ix2 d n) = -Ideal.exp (A V (ix2 d n)) := by
  after_reads_at

/-! ## The step, the decay and what is added to the state -/

/-- The softplus. -/
theorem v53_at (b : Fin 2) (t : Fin 1024) (d : Fin 2048) :
    v53 (after hostOps0_3 V) (ix3 b t d) = Model.softplus (v50 V (ix3 b t d)) := by
  after_reads_at
  simp only [ne_eq, not_true_eq_false, if_false]
  rfl

/-- The step. -/
abbrev step (b : Fin 2) (t : Fin 1024) (d : Fin 2048) : EReal :=
  min (v53 V (ix3 b t d) + Ideal.ofBits .f32 0x38D1B717#32) (Ideal.ofBits .f32 0x41200000#32)

/-- The decay, bounded above. -/
theorem v65_at (b : Fin 2) (t : Fin 1024) (d : Fin 2048) (n : Fin 16) :
    v65 (after hostOps0_4 V) (ix4 b t d n)
      = min (Ideal.exp (step V b t d * v52 V (ix2 d n))) (Ideal.ofBits .f32 0x41200000#32) := by
  after_reads_at

/-- What is added to the state, before its clamp. -/
theorem v73_at (b : Fin 2) (t : Fin 1024) (d : Fin 2048) (n : Fin 16) :
    v73 (after hostOps0_4 V) (ix4 b t d n) = step V b t d * v45 V (ix3 b t n) * v42 V (ix3 b t d) := by
  after_reads_at

/-- The lower bound of that clamp. -/
theorem cst_5_at : after hostOps0_4 V (Proc.devRef .tc main_cst_5) = constant (F := Ideal) S_ .f32 0xC1200000#32 := by
  after_reads_simp

/-- Its upper bound. -/
theorem cst_6_at : after hostOps0_4 V (Proc.devRef .tc main_cst_6) = constant (F := Ideal) S_ .f32 0x41200000#32 := by
  after_reads_simp

/-- What is added to the state. -/
theorem v74_at (h5 : V (Proc.devRef .tc main_cst_5) = constant (F := Ideal) S_ .f32 0xC1200000#32)
    (h6 : V (Proc.devRef .tc main_cst_6) = constant (F := Ideal) S_ .f32 0x41200000#32) (b : Fin 2) (t : Fin 1024) (d : Fin 2048) (n : Fin 16) :
    v74 (after hostOps0_5 V) (ix4 b t d n) = Model.clip 0xC1200000#32 0x41200000#32 (v73 V (ix4 b t d n)) := by
  after_reads_at
  rw [h5, h6]
  rfl

/-- The loop is handed the decays with the time first. -/
theorem v79_0_at (b : Fin 2) (t : Fin 1024) (d : Fin 2048) (n : Fin 16) :
    v79_0 (after hostOps0_6 V) (ix4 t b d n) = v65 V (ix4 b t d n) := by
  after_reads_at
  simp only [id_eq]
  pointwise

/-- And what is added, likewise. -/
theorem v79_1_at (b : Fin 2) (t : Fin 1024) (d : Fin 2048) (n : Fin 16) :
    v79_1 (after hostOps0_6 V) (ix4 t b d n) = v74 V (ix4 b t d n) := by
  after_reads_at
  simp only [id_eq]
  pointwise

/-- The state begins at zero. -/
theorem v79_3_at (b : Fin 2) (d : Fin 2048) (n : Fin 16) : v79_3 (after hostOps0_6 V) (ix3 b d n) = 0 := by
  after_reads_at
  simp only [id_eq]
  pointwise

/-! ## After the loop -/

/-- The output of the recurrence, with the skip. -/
theorem v85_at (b : Fin 2) (t : Fin 1024) (d : Fin 2048) :
    v85 (after hostOps0_7 V) (ix3 b t d)
      = ∑ n : Fin 16, v79_4 V (ix4 t b d n) * v46 V (ix3 b t n) + v42 V (ix3 b t d) * D V (ix1 d) := by
  after_reads_at

/-- The lower bound of its clamp. -/
theorem cst_10_at : after hostOps0_7 V (Proc.devRef .tc main_cst_10) = constant (F := Ideal) S_ .f32 0xC2480000#32 := by
  after_reads_simp

/-- Its upper bound. -/
theorem cst_11_at : after hostOps0_7 V (Proc.devRef .tc main_cst_11) = constant (F := Ideal) S_ .f32 0x42480000#32 := by
  after_reads_simp

/-- The output clamped. -/
theorem v86_at (h5 : V (Proc.devRef .tc main_cst_10) = constant (F := Ideal) S_ .f32 0xC2480000#32)
    (h6 : V (Proc.devRef .tc main_cst_11) = constant (F := Ideal) S_ .f32 0x42480000#32) (b : Fin 2) (t : Fin 1024) (d : Fin 2048) :
    v86 (after hostOps0_8 V) (ix3 b t d) = Model.clip 0xC2480000#32 0x42480000#32 (v85 V (ix3 b t d)) := by
  after_reads_at
  rw [h5, h6]
  rfl

/-- The gate and the output projection. -/
theorem v95_at (b : Fin 2) (t : Fin 1024) (e : Fin 1024) :
    v95 (after hostOps0_9 V) (ix3 b t e)
      = ∑ d : Fin 2048, v86 V (ix3 b t d) * Model.silu (v2 V (ix3 b t d)) * Wo V (ix2 e d) := by
  after_reads_at
  rfl

end Cert.ReferenceIdeal.Read

end
-- ==== Proof.RefLoop.lean ====
/-
  The reference's loop: what one trip reads and writes at an index, and by induction over the trips that the state it
  carries is the recurrence's and that the states kept are those of the trips passed.
-/
module

public import proofs.«01_k».proof.Proof.RefRead
public import Idealize.ShloMosaic.Lib.DynamicIndex

@[expose] public section

set_option maxRecDepth 16384

noncomputable section

namespace Cert.ReferenceIdeal.Read

open Idealize.ShloMosaic Idealize.ShloMosaic.TcCoe Idealize.ShloMosaic.StableHlo
open Cert.ReferenceIdeal Cert.ReferenceIdeal.Gen Cert.ReferenceIdeal.Value

/-! ## One trip -/

/-- The trip counter's word. -/
abbrev trips (k : ℕ) : IVec S_ 32 := fun _ => Scf.iv 0#32 1#32 k

/-- Read signed, the word of a trip below 1024 is the trip. -/
theorem trips_toInt (k : Fin 1024) (i : S_.Idx) : (trips k.val i).toInt = k.val := by
  show (Scf.iv 0#32 1#32 k.val).toInt = _
  rw [show Scf.iv 0#32 1#32 k.val = BitVec.ofNat 32 k.val from by simp [Scf.iv]]
  exact toInt_ofNat_of_lt (by omega)

/-- The start of a trip's block in an array with the time first. -/
theorem start_at (k : Fin 1024) (a : Fin 4) :
    (((![trips k.val, constantI S_ 32 0#32, constantI S_ 32 0#32, constantI S_ 32 0#32] : Fin 4 → (⟨S_, .i32⟩ : BufTy).Contents (Elt Ideal)))
      a (Shape.Idx.first h_S_)).toInt = ((![k.val, 0, 0, 0] : Fin 4 → ℕ) a : ℤ) := by
  fin_cases a
  · exact trips_toInt k (Shape.Idx.first h_S_)
  all_goals rfl

/-- A trip's block fits. -/
theorem block_fits (k : Fin 1024) : S1024x2x2048x16.Slices ![k.val, 0, 0, 0] S1x2x2048x16 := by
  refine ⟨rfl, fun a => ?_⟩
  fin_cases a
  · show k.val + 1 ≤ 1024; omega
  · show 0 + 2 ≤ 2; omega
  · show 0 + 2048 ≤ 2048; omega
  · show 0 + 16 ≤ 16; omega

/-- A trip reads its own block. -/
theorem slice_at (v : FVec Ideal S1024x2x2048x16 .f32) (k : Fin 1024) (b : Fin 2) (d : Fin 2048) (n : Fin 16) :
    shapeCast S2x2048x16 (Host.dynamicSlice S1x2x2048x16 v (fun a => (((![trips k.val, constantI S_ 32 0#32, constantI S_ 32 0#32,
        constantI S_ 32 0#32] : Fin 4 → (⟨S_, .i32⟩ : BufTy).Contents (Elt Ideal))) a (Shape.Idx.first h_S_)).toInt)
        sliceFits_S1024x2x2048x16_S1x2x2048x16) shapeCasts_S1x2x2048x16_S2x2048x16 (ix3 b d n) = v (ix4 k b d n) := by
  rw [Host.dynamicSlice_eq_extractStridedSlice _ _ _ ![k.val, 0, 0, 0] _ (block_fits k) (start_at k)]
  pointwise

/-- A block written at a time replaces that time and no other. -/
theorem update_at (v : FVec Ideal S1024x2x2048x16 .f32) (u : FVec Ideal S1x2x2048x16 .f32) (k t : Fin 1024) (b : Fin 2) (d : Fin 2048) (n : Fin 16)
    (start : Fin 4 → Int) (hs : ∀ a, start a = ((![k.val, 0, 0, 0] : Fin 4 → ℕ) a : ℤ)) :
    Host.dynamicUpdateSlice v u start updateFits_S1024x2x2048x16_S1x2x2048x16 (ix4 t b d n)
      = if t = k then u (ix4 0 b d n) else v (ix4 t b d n) := by
  have hc : ∀ a : Fin 4, Host.clampedStart S1024x2x2048x16 S1x2x2048x16 updateFits_S1024x2x2048x16_S1x2x2048x16.1 start a
      = (![k.val, 0, 0, 0] : Fin 4 → ℕ) a := by
    intro a
    have hle := (block_fits k).2 a
    unfold Host.clampedStart
    rw [hs a]
    omega
  rw [Host.dynamicUpdateSlice_apply]
  by_cases h : t = k
  · rw [if_pos h, dif_pos]
    · subst h
      refine congrArg u ?_
      funext a
      apply Fin.ext
      have hca := hc a
      fin_cases a
      · exact (congrArg (t.val - ·) hca).trans (Nat.sub_self _)
      · exact (congrArg (b.val - ·) hca).trans (Nat.sub_zero _)
      · exact (congrArg (d.val - ·) hca).trans (Nat.sub_zero _)
      · exact (congrArg (n.val - ·) hca).trans (Nat.sub_zero _)
    · intro a
      rw [hc a]
      subst h
      fin_cases a
      · show t.val ≤ t.val ∧ t.val < t.val + 1; omega
      · show 0 ≤ b.val ∧ b.val < 0 + 2; omega
      · show 0 ≤ d.val ∧ d.val < 0 + 2048; omega
      · show 0 ≤ n.val ∧ n.val < 0 + 16; omega
  · rw [if_neg h, dif_neg]
    intro hh
    have h0 := hh 0
    rw [hc 0] at h0
    have h1 : k.val ≤ t.val ∧ t.val < k.val + 1 := h0
    exact h (Fin.ext (by omega))

/-- The state after a trip. -/
theorem res_at (V : Valuation τ sig (Elt Ideal)) (k : Fin 1024) (hk : V (Proc.devRef .tc main_v79_2) = trips k.val)
    (b : Fin 2) (d : Fin 2048) (n : Fin 16) :
    (res_main_while0b_v100 V : FVec Ideal S2x2048x16 .f32) (ix3 b d n)
      = Model.clip 0xC1A00000#32 0x41A00000#32 (v79_0 V (ix4 k b d n) * v79_3 V (ix3 b d n) + v79_1 V (ix4 k b d n)) := by
  unfold res_main_while0b_v100
  rw [hk]
  rw [← slice_at (v79_0 V), ← slice_at (v79_1 V)]
  rfl

end Cert.ReferenceIdeal.Read

end
-- ==== Proof.RefValues.lean ====
/-
  The reference's values: its buffers stage by stage as the block's mathematics, with the log of the state matrix zero;
  its loop as the recurrence, by induction over the trips; and its result.
-/
module

public import proofs.«01_k».proof.Proof.RefLoop

@[expose] public section

set_option maxRecDepth 16384

noncomputable section

namespace Cert.ReferenceIdeal.Read

open Idealize.ShloMosaic Idealize.ShloMosaic.TcCoe Idealize.ShloMosaic.StableHlo
open Cert.ReferenceIdeal Cert.ReferenceIdeal.Gen Cert.ReferenceIdeal.Value
open Cert.Model (Params)

variable (m : (ℓ : Loc nD τ sig) → Buf (Elt Ideal) ℓ) (c : Dev nD)

/-- The arrays core `c` is handed. -/
def params : Params := Model.ofArrays
  (fun b t k => m ((c.tc : Thread nD τ).loc main_arg0) (ix3 b t k : S2x1024x1024.Idx))
  (fun j k => m ((c.tc : Thread nD τ).loc main_arg1) (ix2 j k : S4096x1024.Idx))
  (fun d k => m ((c.tc : Thread nD τ).loc main_arg2) (ix3 d 0 k : S2048x1x4.Idx))
  (fun d => m ((c.tc : Thread nD τ).loc main_arg3) (ix1 d : S2048.Idx))
  (fun j d => m ((c.tc : Thread nD τ).loc main_arg4) (ix2 j d : S96x2048.Idx))
  (fun d r => m ((c.tc : Thread nD τ).loc main_arg5) (ix2 d r : S2048x64.Idx))
  (fun d => m ((c.tc : Thread nD τ).loc main_arg6) (ix1 d : S2048.Idx))
  (fun d => m ((c.tc : Thread nD τ).loc main_arg8) (ix1 d : S2048.Idx))
  (fun e d => m ((c.tc : Thread nD τ).loc main_arg9) (ix2 e d : S1024x2048.Idx))

/-! ## The stages before the loop -/

/-- The buffers as the program is launched. -/
def L0 : Valuation τ sig (Elt Ideal) := launchContents m c
/-- After the input projection. -/
def L1 : Valuation τ sig (Elt Ideal) := after hostOps0 (L0 m c)
/-- After the padding. -/
def L2 : Valuation τ sig (Elt Ideal) := after hostOps0_1 (L1 m c)
/-- After the convolution and the projections of its activation. -/
def L3 : Valuation τ sig (Elt Ideal) := after hostOps0_2 (L2 m c)
/-- After the softplus. -/
def L4 : Valuation τ sig (Elt Ideal) := after hostOps0_3 (L3 m c)
/-- After the decay. -/
def L5 : Valuation τ sig (Elt Ideal) := after hostOps0_4 (L4 m c)
/-- After the clamp of what is added to the state. -/
def L6 : Valuation τ sig (Elt Ideal) := after hostOps0_5 (L5 m c)
/-- As the loop begins. -/
def L7 : Valuation τ sig (Elt Ideal) := after hostOps0_6 (L6 m c)

/-- The stages are the contents the loop begins with. -/
theorem entry_eq : entryContents preI m c = L7 m c := rfl

/-! ## What each stretch leaves alone -/

/-- Stretch 1 leaves what it does not write. -/
theorem keep1 {r : Ref sig .tc} (h : r ∉ hostOps0_W) : L1 m c (Proc.devRef .tc r) = L0 m c (Proc.devRef .tc r) :=
  after_of_writes_sub hostOps0 _ hostOps0_writes h

/-- Stretch 2 leaves what it does not write. -/
theorem keep2 {r : Ref sig .tc} (h : r ∉ hostOps0_1_W) : L2 m c (Proc.devRef .tc r) = L1 m c (Proc.devRef .tc r) :=
  after_of_writes_sub hostOps0_1 _ hostOps0_1_writes h

/-- Stretch 3 leaves what it does not write. -/
theorem keep3 {r : Ref sig .tc} (h : r ∉ hostOps0_2_W) : L3 m c (Proc.devRef .tc r) = L2 m c (Proc.devRef .tc r) :=
  after_of_writes_sub hostOps0_2 _ hostOps0_2_writes h

/-- Stretch 4 leaves what it does not write. -/
theorem keep4 {r : Ref sig .tc} (h : r ∉ hostOps0_3_W) : L4 m c (Proc.devRef .tc r) = L3 m c (Proc.devRef .tc r) :=
  after_of_writes_sub hostOps0_3 _ hostOps0_3_writes h

/-- Stretch 5 leaves what it does not write. -/
theorem keep5 {r : Ref sig .tc} (h : r ∉ hostOps0_4_W) : L5 m c (Proc.devRef .tc r) = L4 m c (Proc.devRef .tc r) :=
  after_of_writes_sub hostOps0_4 _ hostOps0_4_writes h

/-- Stretch 6 leaves what it does not write. -/
theorem keep6 {r : Ref sig .tc} (h : r ∉ hostOps0_5_W) : L6 m c (Proc.devRef .tc r) = L5 m c (Proc.devRef .tc r) :=
  after_of_writes_sub hostOps0_5 _ hostOps0_5_writes h

/-- Stretch 7 leaves what it does not write. -/
theorem keep7 {r : Ref sig .tc} (h : r ∉ hostOps0_6_W) : L7 m c (Proc.devRef .tc r) = L6 m c (Proc.devRef .tc r) :=
  after_of_writes_sub hostOps0_6 _ hostOps0_6_writes h

/-- What the padded rows, the convolution and its projections read is as launched. -/
theorem keep12 {r : Ref sig .tc} (h1 : r ∉ hostOps0_W) (h2 : r ∉ hostOps0_1_W) :
    L2 m c (Proc.devRef .tc r) = m ((c.tc : Thread nD τ).loc r) :=
  (keep2 m c h2).trans (keep1 m c h1)

/-- What stretches four to seven do not write is after them as before. -/
theorem keep4567 {r : Ref sig .tc} (h4 : r ∉ hostOps0_3_W) (h5 : r ∉ hostOps0_4_W) (h6 : r ∉ hostOps0_5_W) (h7 : r ∉ hostOps0_6_W) :
    L7 m c (Proc.devRef .tc r) = L3 m c (Proc.devRef .tc r) :=
  (keep7 m c h7).trans ((keep6 m c h6).trans ((keep5 m c h5).trans (keep4 m c h4)))

/-! ## The values before the loop -/

/-- The x half of the input projection. -/
theorem L1_v1 (b : Fin 2) (t : Fin 1024) (d : Fin 2048) : v1 (L1 m c) (ix3 b t d) = Model.xp (params m c) b t.val d := by
  refine (v1_at (L0 m c) b t d).trans ?_
  unfold Model.xp
  refine Finset.sum_congr rfl fun k _ => ?_
  have hx : (params m c).x b t.val k = x (L0 m c) (ix3 b t k) := by
    simp only [params, Model.ofArrays, dif_pos t.isLt]; rfl
  rw [hx]
  rfl

/-- Its z half. -/
theorem L1_v2 (b : Fin 2) (t : Fin 1024) (d : Fin 2048) : v2 (L1 m c) (ix3 b t d) = Model.zp (params m c) b t.val d := by
  refine (v2_at (L0 m c) b t d).trans ?_
  unfold Model.zp
  refine Finset.sum_congr rfl fun k _ => ?_
  have hx : (params m c).x b t.val k = x (L0 m c) (ix3 b t k) := by
    simp only [params, Model.ofArrays, dif_pos t.isLt]; rfl
  rw [hx]
  rfl

/-- The padded rows are the x half, three steps late. -/
theorem L2_v3 (b : Fin 2) (s : Fin 1027) (d : Fin 2048) (j : ℕ) (hj : j = 5 + s.val) :
    v3 (L2 m c) (ix3 b s d) = Model.late (params m c) b j d := by
  refine (v3_at (L1 m c) (c_at (L0 m c)) b s d).trans ?_
  subst hj
  unfold Model.late
  by_cases h : 3 ≤ s.val
  · rw [dif_pos h, if_pos (by omega), L1_v1, show 5 + s.val - 8 = s.val - 3 from by omega]
  · rw [dif_neg h, if_neg (by omega)]

/-- The convolution. -/
theorem L3_v35 (b : Fin 2) (t : Fin 1024) (d : Fin 2048) : v35 (L3 m c) (ix3 b t d) = Model.conv (params m c) b t.val d := by
  refine (v35_at (L2 m c) b t d).trans ?_
  have hw : cw (L2 m c) = m ((c.tc : Thread nD τ).loc main_arg2) := keep12 m c (by decide) (by decide)
  have hb : cb (L2 m c) = m ((c.tc : Thread nD τ).loc main_arg3) := keep12 m c (by decide) (by decide)
  rw [hw, hb, L2_v3 m c b _ d (5 + t.val) rfl, L2_v3 m c b _ d (6 + t.val) (by dsimp only; omega),
    L2_v3 m c b _ d (7 + t.val) (by dsimp only; omega), L2_v3 m c b _ d (8 + t.val) (by dsimp only; omega)]
  rfl

/-- The convolution activated. -/
theorem L3_v42 (b : Fin 2) (t : Fin 1024) (d : Fin 2048) : v42 (L3 m c) (ix3 b t d) = Model.xc (params m c) b t.val d := by
  refine (v42_at (L2 m c) b t d).trans ?_
  exact congrArg Model.silu (L3_v35 m c b t d)

/-- The 96 numbers. -/
theorem L3_v43 (b : Fin 2) (t : Fin 1024) (j : Fin 96) : v43 (L3 m c) (ix3 b t j) = Model.xd (params m c) b t.val j := by
  refine (v43_at (L2 m c) b t j).trans ?_
  have hw : Wx (L2 m c) = m ((c.tc : Thread nD τ).loc main_arg4) := keep12 m c (by decide) (by decide)
  unfold Model.xd
  refine Finset.sum_congr rfl fun d _ => ?_
  rw [hw]
  exact congrArg (· * _) (L3_v42 m c b t d)

/-- The numbers `B`. -/
theorem L3_v45 (b : Fin 2) (t : Fin 1024) (n : Fin 16) :
    v45 (L3 m c) (ix3 b t n) = Model.xd (params m c) b t.val ⟨64 + n.val, by omega⟩ :=
  (v45_at (L2 m c) b t n).trans (L3_v43 m c b t _)

/-- The numbers `C`. -/
theorem L3_v46 (b : Fin 2) (t : Fin 1024) (n : Fin 16) :
    v46 (L3 m c) (ix3 b t n) = Model.xd (params m c) b t.val ⟨80 + n.val, by omega⟩ :=
  (v46_at (L2 m c) b t n).trans (L3_v43 m c b t _)

/-- The step before its softplus. -/
theorem L3_v50 (b : Fin 2) (t : Fin 1024) (d : Fin 2048) : v50 (L3 m c) (ix3 b t d) = Model.dt (params m c) b t.val d := by
  refine (v50_at (L2 m c) b t d).trans ?_
  have hw : Wd (L2 m c) = m ((c.tc : Thread nD τ).loc main_arg5) := keep12 m c (by decide) (by decide)
  have hb : bd (L2 m c) = m ((c.tc : Thread nD τ).loc main_arg6) := keep12 m c (by decide) (by decide)
  rw [hw, hb]
  unfold Model.dt
  refine congrArg (· + _) (Finset.sum_congr rfl fun r _ => ?_)
  exact congrArg (· * _) (L3_v43 m c b t _)

/-- The log of the state matrix is zero. -/
def ZeroLog : Prop := ∀ (d : Fin 2048) (n : Fin 16), A (L0 m c) (ix2 d n) = 0

/-- Then the state matrix is minus one. -/
theorem L3_v52 (hA : ZeroLog m c) (d : Fin 2048) (n : Fin 16) : v52 (L3 m c) (ix2 d n) = -1 := by
  refine (v52_at (L2 m c) d n).trans ?_
  have ha : A (L2 m c) = A (L0 m c) := (keep2 m c (by decide)).trans (keep1 m c (by decide))
  rw [ha, hA d n]
  show -(((Real.exp 0 : ℝ) : EReal)) = -1
  rw [Real.exp_zero]
  rfl

/-- The step. -/
theorem L4_step (b : Fin 2) (t : Fin 1024) (d : Fin 2048) : step (L4 m c) b t d = Model.delta (params m c) b t.val d := by
  have e : v53 (L4 m c) (ix3 b t d) = Model.softplus (Model.dt (params m c) b t.val d) :=
    (v53_at (L3 m c) b t d).trans (congrArg Model.softplus (L3_v50 m c b t d))
  unfold step
  rw [e]
  rfl

/-- The decay. -/
theorem L5_v65 (hA : ZeroLog m c) (b : Fin 2) (t : Fin 1024) (d : Fin 2048) (n : Fin 16) :
    v65 (L5 m c) (ix4 b t d n) = Ideal.exp (-Model.delta (params m c) b t.val d) := by
  refine (v65_at (L4 m c) b t d n).trans ?_
  have e : v52 (L4 m c) = v52 (L3 m c) := keep4 m c (by decide)
  rw [e, L3_v52 m c hA, L4_step, mul_neg, mul_one]
  exact Model.decay_le (Model.delta_nonneg _ b t.val d)

/-- What is added to the state. -/
theorem L6_v74 (b : Fin 2) (t : Fin 1024) (d : Fin 2048) (n : Fin 16) :
    v74 (L6 m c) (ix4 b t d n) = Model.bu (params m c) b t.val d n := by
  refine (v74_at (L5 m c) (cst_5_at _) (cst_6_at _) b t d n).trans ?_
  have e45 : v45 (L4 m c) = v45 (L3 m c) := keep4 m c (by decide)
  have e42 : v42 (L4 m c) = v42 (L3 m c) := keep4 m c (by decide)
  have e : v73 (L5 m c) (ix4 b t d n) = Model.xd (params m c) b t.val ⟨64 + n.val, by omega⟩
      * (Model.delta (params m c) b t.val d * Model.xc (params m c) b t.val d) := by
    refine (v73_at (L4 m c) b t d n).trans ?_
    rw [e45, e42, L4_step, L3_v45, L3_v42, mul_comm (Model.delta _ _ _ _) (Model.xd _ _ _ _), mul_assoc]
  rw [e]
  rfl

/-- The loop is handed the decays. -/
theorem L7_v79_0 (hA : ZeroLog m c) (b : Fin 2) (t : Fin 1024) (d : Fin 2048) (n : Fin 16) :
    v79_0 (L7 m c) (ix4 t b d n) = Ideal.exp (-Model.delta (params m c) b t.val d) := by
  refine (v79_0_at (L6 m c) b t d n).trans ?_
  have e : v65 (L6 m c) = v65 (L5 m c) := keep6 m c (by decide)
  rw [e, L5_v65 m c hA]

/-- It is handed what is added. -/
theorem L7_v79_1 (b : Fin 2) (t : Fin 1024) (d : Fin 2048) (n : Fin 16) :
    v79_1 (L7 m c) (ix4 t b d n) = Model.bu (params m c) b t.val d n :=
  (v79_1_at (L6 m c) b t d n).trans (L6_v74 m c b t d n)

/-! ## The loop -/

/-- One trip, at a buffer the loop carries. -/
theorem trip_eq (k : ℕ) {r : Ref sig .tc} (hr : r ∈ carriedRefs) :
    atK m (k + 1) c (Proc.devRef .tc r) = STEP (atK m k c) (Proc.devRef .tc r) :=
  trip_agree (atK m k c) r hr

/-- The decays are not changed. -/
theorem loop_v79_0 : ∀ k, v79_0 (atK m k c) = v79_0 (L7 m c)
  | 0 => rfl
  | k + 1 => (trip_eq m c k (by decide)).trans ((STEP_main_v79_0 _).trans (loop_v79_0 k))

/-- What is added is not changed. -/
theorem loop_v79_1 : ∀ k, v79_1 (atK m k c) = v79_1 (L7 m c)
  | 0 => rfl
  | k + 1 => (trip_eq m c k (by decide)).trans ((STEP_main_v79_1 _).trans (loop_v79_1 k))

/-- The state after a trip, of the state before it. -/
theorem res_model (hA : ZeroLog m c) (k : Fin 1024) (b : Fin 2) (d : Fin 2048) (n : Fin 16)
    (ih : v79_3 (atK m k.val c) (ix3 b d n) = Model.h (params m c) b d n k.val) :
    (res_main_while0b_v100 (atK m k.val c) : FVec Ideal S2x2048x16 .f32) (ix3 b d n) = Model.h (params m c) b d n (k.val + 1) := by
  refine (res_at (atK m k.val c) k (atK_ctr m c k.val) b d n).trans ?_
  rw [loop_v79_0, loop_v79_1, L7_v79_0 m c hA, L7_v79_1, ih]
  rfl

/-- Before trip `k` the state carried is the recurrence's at `k`. -/
theorem loop_v79_3 (hA : ZeroLog m c) (b : Fin 2) (d : Fin 2048) (n : Fin 16) :
    ∀ k, k ≤ 1024 → v79_3 (atK m k c) (ix3 b d n) = Model.h (params m c) b d n k
  | 0, _ => v79_3_at (L6 m c) b d n
  | k + 1, hk => by
    have ih := loop_v79_3 hA b d n k (by omega)
    have e : v79_3 (atK m (k + 1) c) = res_main_while0b_v100 (atK m k c) :=
      (trip_eq m c k (by decide)).trans (STEP_main_v79_3 _)
    rw [e]
    exact res_model m c hA ⟨k, by omega⟩ b d n ih

/-- And the states kept are those of the trips passed. -/
theorem loop_v79_4 (hA : ZeroLog m c) (b : Fin 2) (d : Fin 2048) (n : Fin 16) (t : Fin 1024) :
    ∀ k, k ≤ 1024 → t.val < k → v79_4 (atK m k c) (ix4 t b d n) = Model.h (params m c) b d n (t.val + 1)
  | 0, _, h => absurd h (by omega)
  | k + 1, hk, ht => by
    have e : v79_4 (atK m (k + 1) c) = step_main_v79_4 (atK m k c) :=
      (trip_eq m c k (by decide)).trans (STEP_main_v79_4 _)
    rw [e]
    unfold step_main_v79_4
    refine (update_at (v79_4 (atK m k c)) _ ⟨k, by omega⟩ t b d n _ ?_).trans ?_
    · rw [atK_ctr m c k]
      exact start_at ⟨k, by omega⟩
    · by_cases h : t = ⟨k, by omega⟩
      · rw [if_pos h]
        have hr := res_model m c hA ⟨k, by omega⟩ b d n (loop_v79_3 m c hA b d n k (by omega))
        rw [h]
        refine Eq.trans ?_ hr
        generalize (res_main_while0b_v100 (atK m k c) : FVec Ideal S2x2048x16 .f32) = w
        pointwise
      · rw [if_neg h]
        have h' : t.val ≠ k := fun hh => h (Fin.ext hh)
        exact loop_v79_4 hA b d n t k (by omega) (by omega)

/-- The buffers the loop writes. -/
abbrev loopW : List (Ref sig .tc) :=
  condOps_W ++ while0Ops0_W ++ while0Ops0_1_W ++ while0Ops0_2_W ++ while0Ops0_3_W ++ while0Ops0_4_W ++ while0Ops0_5_W

/-- A buffer the loop does not write is as the loop began. -/
theorem loop_keep {r : Ref sig .tc} (h : r ∉ loopW) : ∀ k, atK m k c (Proc.devRef .tc r) = L7 m c (Proc.devRef .tc r)
  | 0 => rfl
  | k + 1 => by
    simp only [loopW, List.mem_append, not_or] at h
    obtain ⟨⟨⟨⟨⟨⟨h0, h1⟩, h2⟩, h3⟩, h4⟩, h5⟩, h6⟩ := h
    have ih := loop_keep (r := r) (by simp only [loopW, List.mem_append, not_or]; exact ⟨⟨⟨⟨⟨⟨h0, h1⟩, h2⟩, h3⟩, h4⟩, h5⟩, h6⟩) k
    show after while0Ops0_5 (after while0Ops0_4 (after while0Ops0_3 (after while0Ops0_2 (after while0Ops0_1 (after while0Ops0
      (after condOps (atK m k c))))))) (Proc.devRef .tc r) = _
    rw [after_of_writes_sub while0Ops0_5 _ while0Ops0_5_writes h6, after_of_writes_sub while0Ops0_4 _ while0Ops0_4_writes h5,
      after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1,
      after_of_writes_sub condOps _ condOps_writes h0, ih]

/-! ## The stages after the loop -/

/-- As the loop ends. -/
def L8 : Valuation τ sig (Elt Ideal) := after condOps (atK m 1024 c)
/-- After the sum over the state and the skip. -/
def L9 : Valuation τ sig (Elt Ideal) := after hostOps0_7 (L8 m c)
/-- After the clamp. -/
def L10 : Valuation τ sig (Elt Ideal) := after hostOps0_8 (L9 m c)
/-- As the program ends. -/
def L11 : Valuation τ sig (Elt Ideal) := after hostOps0_9 (L10 m c)

/-- The stages are the contents the program ends with. -/
theorem final_eq : finalContents condOps preI bodyI postI 1024 m c = L11 m c := rfl

/-- The buffers stretch 9 writes. -/
abbrev post7_W : List (Ref sig .tc) := [main_v80, main_v81, main_v82, main_v83, main_v84, main_v85, main_cst_10, main_cst_11]

/-- It writes these and no others. -/
theorem post7_writes : (hostOps0_7 : List (HloOp τ sig (Elt Ideal))).Forall fun op => op.writes ⊆ (post7_W.map (Proc.devRef (τ := τ) .tc)).toFinset :=
  forall_writes_sub_of_map rfl

/-- It leaves the others alone. -/
theorem keep9 {r : Ref sig .tc} (h : r ∉ post7_W) : L9 m c (Proc.devRef .tc r) = L8 m c (Proc.devRef .tc r) :=
  after_of_writes_sub hostOps0_7 _ post7_writes h

/-- The buffers stretch 10 writes. -/
abbrev post8_W : List (Ref sig .tc) := [main_call7_v0, main_call7_v1, main_call7_v2, main_call7_v3, main_call7_v4, main_v86]

/-- It writes these and no others. -/
theorem post8_writes : (hostOps0_8 : List (HloOp τ sig (Elt Ideal))).Forall fun op => op.writes ⊆ (post8_W.map (Proc.devRef (τ := τ) .tc)).toFinset :=
  forall_writes_sub_of_map rfl

/-- It leaves the others alone. -/
theorem keep10 {r : Ref sig .tc} (h : r ∉ post8_W) : L10 m c (Proc.devRef .tc r) = L9 m c (Proc.devRef .tc r) :=
  after_of_writes_sub hostOps0_8 _ post8_writes h

/-- The buffers stretch 11 writes. -/
abbrev post9_W : List (Ref sig .tc) := [main_v87, main_v88, main_cst_12, main_v89, main_v90, main_cst_13, main_v91, main_v92, main_v93, main_v94, main_v95]

/-- It writes these and no others. -/
theorem post9_writes : (hostOps0_9 : List (HloOp τ sig (Elt Ideal))).Forall fun op => op.writes ⊆ (post9_W.map (Proc.devRef (τ := τ) .tc)).toFinset :=
  forall_writes_sub_of_map rfl

/-- It leaves the others alone. -/
theorem keep11 {r : Ref sig .tc} (h : r ∉ post9_W) : L11 m c (Proc.devRef .tc r) = L10 m c (Proc.devRef .tc r) :=
  after_of_writes_sub hostOps0_9 _ post9_writes h

/-- A buffer that the loop and its last condition do not write is as the loop began. -/
theorem keep8 {r : Ref sig .tc} (h : r ∉ loopW) : L8 m c (Proc.devRef .tc r) = L7 m c (Proc.devRef .tc r) := by
  have h0 : r ∉ condOps_W := by
    simp only [loopW, List.mem_append, not_or] at h
    exact h.1.1.1.1.1.1
  exact (after_of_writes_sub condOps _ condOps_writes h0).trans (loop_keep m c h 1024)

/-- The states kept, after the loop. -/
theorem L8_v79_4 (hA : ZeroLog m c) (b : Fin 2) (d : Fin 2048) (n : Fin 16) (t : Fin 1024) :
    v79_4 (L8 m c) (ix4 t b d n) = Model.h (params m c) b d n (t.val + 1) := by
  have e : v79_4 (L8 m c) = v79_4 (atK m 1024 c) := after_of_writes_sub condOps _ condOps_writes (by decide)
  rw [e]
  exact loop_v79_4 m c hA b d n t 1024 (le_refl _) t.isLt

/-- An argument is unchanged as the loop ends. -/
theorem arg8 {r : Ref sig .tc} (h1 : r ∉ hostOps0_W) (h2 : r ∉ hostOps0_1_W) (h3 : r ∉ hostOps0_2_W) (h4 : r ∉ hostOps0_3_W)
    (h5 : r ∉ hostOps0_4_W) (h6 : r ∉ hostOps0_5_W) (h7 : r ∉ hostOps0_6_W) (h8 : r ∉ loopW) :
    L8 m c (Proc.devRef .tc r) = m ((c.tc : Thread nD τ).loc r) :=
  (keep8 m c h8).trans ((keep4567 m c h4 h5 h6 h7).trans ((keep3 m c h3).trans (keep12 m c h1 h2)))

/-- And as the program ends. -/
theorem arg11 {r : Ref sig .tc} (h1 : r ∉ hostOps0_W) (h2 : r ∉ hostOps0_1_W) (h3 : r ∉ hostOps0_2_W) (h4 : r ∉ hostOps0_3_W)
    (h5 : r ∉ hostOps0_4_W) (h6 : r ∉ hostOps0_5_W) (h7 : r ∉ hostOps0_6_W) (h8 : r ∉ loopW)
    (h9 : r ∉ post7_W) (h10 : r ∉ post8_W) (h11 : r ∉ post9_W) :
    L11 m c (Proc.devRef .tc r) = m ((c.tc : Thread nD τ).loc r) :=
  (keep11 m c h11).trans ((keep10 m c h10).trans ((keep9 m c h9).trans (arg8 m c h1 h2 h3 h4 h5 h6 h7 h8)))

/-- The output of the recurrence, with the skip. -/
theorem L9_v85 (hA : ZeroLog m c) (b : Fin 2) (t : Fin 1024) (d : Fin 2048) :
    v85 (L9 m c) (ix3 b t d) = Model.y (params m c) b t.val d + Model.xc (params m c) b t.val d * (params m c).D d := by
  refine (v85_at (L8 m c) b t d).trans ?_
  have e46 : v46 (L8 m c) = v46 (L3 m c) :=
    (keep8 m c (by decide)).trans (keep4567 m c (by decide) (by decide) (by decide) (by decide))
  have e42 : v42 (L8 m c) = v42 (L3 m c) :=
    (keep8 m c (by decide)).trans (keep4567 m c (by decide) (by decide) (by decide) (by decide))
  have eD : D (L8 m c) = m ((c.tc : Thread nD τ).loc main_arg8) :=
    arg8 m c (by decide) (by decide) (by decide) (by decide) (by decide) (by decide) (by decide) (by decide)
  have ey : ∑ n : Fin 16, v79_4 (L8 m c) (ix4 t b d n) * v46 (L3 m c) (ix3 b t n) = Model.y (params m c) b t.val d := by
    unfold Model.y
    refine Finset.sum_congr rfl fun n _ => ?_
    rw [L8_v79_4 m c hA, L3_v46, mul_comm]
  rw [e46, e42, eD, L3_v42, ey]
  rfl

/-- The result. -/
theorem L11_v95 (hA : ZeroLog m c) (b : Fin 2) (t e : Fin 1024) :
    v95 (L11 m c) (ix3 b t e) = Model.out (params m c) b t.val e := by
  refine (v95_at (L10 m c) b t e).trans ?_
  have e2 : v2 (L10 m c) = v2 (L1 m c) :=
    (keep10 m c (by decide)).trans ((keep9 m c (by decide)).trans ((keep8 m c (by decide)).trans
      ((keep4567 m c (by decide) (by decide) (by decide) (by decide)).trans ((keep3 m c (by decide)).trans (keep2 m c (by decide))))))
  have eW : Wo (L10 m c) = m ((c.tc : Thread nD τ).loc main_arg9) :=
    (keep10 m c (by decide)).trans ((keep9 m c (by decide)).trans
      (arg8 m c (by decide) (by decide) (by decide) (by decide) (by decide) (by decide) (by decide) (by decide)))
  unfold Model.out
  refine Finset.sum_congr rfl fun d _ => ?_
  have e86 : v86 (L10 m c) (ix3 b t d) = Model.clip 0xC2480000#32 0x42480000#32
      (Model.y (params m c) b t.val d + Model.xc (params m c) b t.val d * (params m c).D d) :=
    (v86_at (L9 m c) (cst_10_at _) (cst_11_at _) b t d).trans (congrArg _ (L9_v85 m c hA b t d))
  rw [e2, eW, e86, L1_v2]
  rfl

end Cert.ReferenceIdeal.Read

end
-- ==== Proof.Claims.lean ====
/-
  The claims: both programs' frames, the predicate's meaning, and that the kernel and the reference end with one result.
-/
module

public import proofs.«01_k».proof.Defs
public import proofs.«01_k».proof.Proof.CoreRun
public import proofs.«01_k».proof.Proof.IdealResult
public import proofs.«01_k».proof.Proof.RefValues
public import Idealize.ShloMosaic.Lib.ReduceAll
public import Idealize.ShloMosaic.Lib.Quiescent

@[expose] public section

set_option maxRecDepth 16384

noncomputable section

namespace Cert.Proof

open Idealize.ShloMosaic Idealize.ShloMosaic.TcCoe Idealize.SL.Sem

/-- The predicate's side conditions. -/
theorem zeroLogFacts : Cert.Pre_zero_log.Facts where
  bcast_S_S2048x16 := by decide
  reducesTo_S2048x16_S_d0_1 := by decide
  h_S_ := by decide

/-! ## The frames -/

/-- The kernel as it runs ends with its arguments unchanged and every counter at zero. -/
theorem frame_kernel : Cert.quiescent_Kernel := fun m ρ _ =>
  (θ_run Cert.Kernel.defs _ _).mono (fun _ h => ⟨fun c => (h.1 c).1, h.2⟩) (Cert.Kernel.Core.run (F := Bits) m ρ)

/-- So does the idealized kernel. -/
theorem frame_ideal : Cert.quiescent_KernelIdeal := fun m ρ _ =>
  (θ_run Cert.KernelIdeal.defs _ _).mono (fun _ h => ⟨fun c => (h.1 c).1, h.2⟩) (Cert.KernelIdeal.Core.run (F := Ideal) m ρ)

section Reference

open Cert.ReferenceIdeal Cert.ReferenceIdeal.Read Cert.ReferenceIdeal.Gen Cert.ReferenceIdeal.Value

variable (m : (ℓ : Loc nD τ sig) → Buf (Elt Ideal) ℓ) (ρ : Dev nD → PrngReg)

/-- The reference ends with argument 0 as launched. -/
theorem end_arg0 (c : Dev nD) : L11 m c (Proc.devRef .tc main_arg0) = m ((c.tc : Thread nD τ).loc main_arg0) :=
  arg11 m c (r := main_arg0) (by decide) (by decide) (by decide) (by decide) (by decide) (by decide) (by decide) (by decide) (by decide) (by decide)
    (by decide)

/-- The reference ends with argument 1 as launched. -/
theorem end_arg1 (c : Dev nD) : L11 m c (Proc.devRef .tc main_arg1) = m ((c.tc : Thread nD τ).loc main_arg1) :=
  arg11 m c (r := main_arg1) (by decide) (by decide) (by decide) (by decide) (by decide) (by decide) (by decide) (by decide) (by decide) (by decide)
    (by decide)

/-- The reference ends with argument 2 as launched. -/
theorem end_arg2 (c : Dev nD) : L11 m c (Proc.devRef .tc main_arg2) = m ((c.tc : Thread nD τ).loc main_arg2) :=
  arg11 m c (r := main_arg2) (by decide) (by decide) (by decide) (by decide) (by decide) (by decide) (by decide) (by decide) (by decide) (by decide)
    (by decide)

/-- The reference ends with argument 3 as launched. -/
theorem end_arg3 (c : Dev nD) : L11 m c (Proc.devRef .tc main_arg3) = m ((c.tc : Thread nD τ).loc main_arg3) :=
  arg11 m c (r := main_arg3) (by decide) (by decide) (by decide) (by decide) (by decide) (by decide) (by decide) (by decide) (by decide) (by decide)
    (by decide)

/-- The reference ends with argument 4 as launched. -/
theorem end_arg4 (c : Dev nD) : L11 m c (Proc.devRef .tc main_arg4) = m ((c.tc : Thread nD τ).loc main_arg4) :=
  arg11 m c (r := main_arg4) (by decide) (by decide) (by decide) (by decide) (by decide) (by decide) (by decide) (by decide) (by decide) (by decide)
    (by decide)

/-- The reference ends with argument 5 as launched. -/
theorem end_arg5 (c : Dev nD) : L11 m c (Proc.devRef .tc main_arg5) = m ((c.tc : Thread nD τ).loc main_arg5) :=
  arg11 m c (r := main_arg5) (by decide) (by decide) (by decide) (by decide) (by decide) (by decide) (by decide) (by decide) (by decide) (by decide)
    (by decide)

/-- The reference ends with argument 6 as launched. -/
theorem end_arg6 (c : Dev nD) : L11 m c (Proc.devRef .tc main_arg6) = m ((c.tc : Thread nD τ).loc main_arg6) :=
  arg11 m c (r := main_arg6) (by decide) (by decide) (by decide) (by decide) (by decide) (by decide) (by decide) (by decide) (by decide) (by decide)
    (by decide)

/-- The reference ends with argument 7 as launched. -/
theorem end_arg7 (c : Dev nD) : L11 m c (Proc.devRef .tc main_arg7) = m ((c.tc : Thread nD τ).loc main_arg7) :=
  arg11 m c (r := main_arg7) (by decide) (by decide) (by decide) (by decide) (by decide) (by decide) (by decide) (by decide) (by decide) (by decide)
    (by decide)

/-- The reference ends with argument 8 as launched. -/
theorem end_arg8 (c : Dev nD) : L11 m c (Proc.devRef .tc main_arg8) = m ((c.tc : Thread nD τ).loc main_arg8) :=
  arg11 m c (r := main_arg8) (by decide) (by decide) (by decide) (by decide) (by decide) (by decide) (by decide) (by decide) (by decide) (by decide)
    (by decide)

/-- The reference ends with argument 9 as launched. -/
theorem end_arg9 (c : Dev nD) : L11 m c (Proc.devRef .tc main_arg9) = m ((c.tc : Thread nD τ).loc main_arg9) :=
  arg11 m c (r := main_arg9) (by decide) (by decide) (by decide) (by decide) (by decide) (by decide) (by decide) (by decide) (by decide) (by decide)
    (by decide)

/-- The reference ends with its arguments unchanged and its result at the last stage's. -/
theorem run_reference : θ_run (defs (F := Ideal)) (onTc (τ := τ) (main (F := Ideal))) ⟨m, fun _ => 0, ρ⟩ (fun r => ∀ c : Dev nD,
    r.2.mem ((c.tc : Thread nD τ).loc main_v95) = v95 (L11 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) := by
  refine (θ_run _ _ _).mono (fun r h c => ?_) (run_fold (F := Ideal) m ρ)
  have hf : ∀ b : Ref sig .tc, (Proc.devRef .tc b : DevRef τ sig).isScoped = false →
      r.2.mem ((c.tc : Thread nD τ).loc b) = L11 m c (Proc.devRef .tc b) := fun b hb =>
    (h c b hb).trans (congrFun (final_eq m c) (Proc.devRef .tc b))
  exact ⟨hf main_v95 rfl,
    (hf main_arg0 rfl).trans (end_arg0 m c),
    (hf main_arg1 rfl).trans (end_arg1 m c),
    (hf main_arg2 rfl).trans (end_arg2 m c),
    (hf main_arg3 rfl).trans (end_arg3 m c),
    (hf main_arg4 rfl).trans (end_arg4 m c),
    (hf main_arg5 rfl).trans (end_arg5 m c),
    (hf main_arg6 rfl).trans (end_arg6 m c),
    (hf main_arg7 rfl).trans (end_arg7 m c),
    (hf main_arg8 rfl).trans (end_arg8 m c),
    (hf main_arg9 rfl).trans (end_arg9 m c)⟩

end Reference

/-- The reference ends with its arguments unchanged; it declares no semaphore, so every counter is at zero. -/
theorem frame_reference : Cert.quiescent_ReferenceIdeal := fun m ρ _ =>
  (θ_run Cert.ReferenceIdeal.defs _ _).mono (fun r h => ⟨fun c => (h c).2, sem_eq_zero_of_no_sems (by decide) r.2⟩)
    (run_reference m ρ)

/-! ## The precondition -/

instance : Subsingleton Cert.Pre_zero_log.S_.Idx := ⟨fun i j => funext fun a => a.elim0⟩

/-- The log of the state matrix, as the idealized kernel is handed it. -/
abbrev logArg (m : (ℓ : Loc Cert.KernelIdeal.nD Cert.KernelIdeal.τ Cert.KernelIdeal.sig) → Buf (Elt Ideal) ℓ) (c : Dev Cert.KernelIdeal.nD) :
    FVec Ideal Cert.KernelIdeal.S2048x16 .f32 :=
  m ((c.tc : Thread Cert.KernelIdeal.nD Cert.KernelIdeal.τ).loc Cert.KernelIdeal.main_arg7)

/-- Where the predicate is one, every entry of the log of the state matrix is zero. -/
theorem zero_of_pre (m : (ℓ : Loc Cert.KernelIdeal.nD Cert.KernelIdeal.τ Cert.KernelIdeal.sig) → Buf (Elt Ideal) ℓ)
    (h : Cert.Pre_KernelIdeal_zero_log (hPre_zero_log := zeroLogFacts) m) (c : Dev Cert.KernelIdeal.nD) (i : Cert.KernelIdeal.S2048x16.Idx) :
    logArg m c i = 0 := by
  have e := congrFun (h c) (Shape.Idx.first zeroLogFacts.h_S_)
  unfold Cert.Pre_zero_log.fn at e
  have e1 := Host.reduce_andi_all _ _ _ _ _ e i
  have e2 : Ideal.cmp .oeq (logArg m c i) (Ideal.ofBits .f32 0x00000000#32) = 1#1 := e1
  have hz : Ideal.ofBits .f32 0x00000000#32 = 0 := by simp [Ideal.ofBits, Ideal.ieee]
  rw [hz] at e2
  by_contra hne
  have e3 : Ideal.cmp .oeq (logArg m c i) 0 = 0#1 := by
    show BitVec.ofBool (decide (logArg m c i = 0)) = 0#1
    rw [decide_eq_false hne]
    rfl
  rw [e3] at e2
  exact absurd e2 (by decide)

/-! ## The value -/

/-- From arguments that agree, with the log of the state matrix zero, the kernel and the reference end with one result. -/
theorem value : Cert.algebraic_KernelIdeal_ReferenceIdeal_pre_zero_log (hPre_zero_log := zeroLogFacts) := by
  intro m ρ m' ρ' hpre hagree
  refine ⟨fun c => Cert.KernelIdeal.Core.result m c, ?_, ?_⟩
  · exact (θ_run Cert.KernelIdeal.defs _ _).mono (fun _ h c => ⟨(h.1 c).2, (h.1 c).1⟩) (Cert.KernelIdeal.Core.run (F := Ideal) m ρ)
  · refine (θ_run Cert.ReferenceIdeal.defs _ _).mono (fun _ h c => ⟨(h c).1.trans ?_, (h c).2⟩) (run_reference m' ρ')
    obtain ⟨a0, a1, a2, a3, a4, a5, a6, a7, a8, a9⟩ := hagree c
    have hP : Cert.ReferenceIdeal.Read.params m' c = Cert.KernelIdeal.Core.params m c := by
      unfold Cert.ReferenceIdeal.Read.params Cert.KernelIdeal.Core.params
      rw [a0, a1, a2, a3, a4, a5, a6, a8, a9]
    have hA : Cert.ReferenceIdeal.Read.ZeroLog m' c := fun d n =>
      (congrFun a7 (ix2 d n)).trans (zero_of_pre m hpre c (ix2 d n))
    funext i
    obtain ⟨b, t, e, rfl⟩ : ∃ (b : Fin 2) (t e : Fin 1024), i = (ix3 b t e : Cert.KernelIdeal.S2x1024x1024.Idx) :=
      ⟨i 0, i 1, i 2, by funext a; fin_cases a <;> rfl⟩
    refine (Cert.ReferenceIdeal.Read.L11_v95 m' c hA b t e).trans ?_
    rw [hP]
    exact (Cert.KernelIdeal.Core.result_at m c b t e).symm

end Cert.Proof

end
-- ==== Proof.lean ====
/-
  The proof of the certificate's claim: that the kernel runs and ends with its arguments unchanged and its counters at zero,
  as it runs and idealized; that the reference does; that the idealized kernel is the kernel's idealization, no operation
  replaced; and that, where the log of the state matrix is zero, the idealized kernel and the reference end with equal
  results. Each is proved in Proof/Claims.lean, from Proof/CoreRun.lean and its twin Proof/IdealCoreRun.lean (the kernel's
  execution), Proof/IdealResult.lean (its result as the block's mathematics, Proof/Model.lean) and Proof/RefValues.lean (the
  reference's result as the same mathematics).
-/
module

public import proofs.«01_k».proof.Defs
public import proofs.«01_k».proof.Proof.Claims

@[expose] public section

noncomputable section

namespace Cert.Proof

/-- Everything the certificate claims. -/
theorem claim : Cert.Claim := ⟨Cert.Kernel.Gen.facts, Cert.KernelIdeal.Gen.facts, Cert.ReferenceIdeal.Gen.facts, zeroLogFacts,
  frame_kernel, frame_ideal, fun m ρ _ => frame_ideal m ρ trivial, frame_reference, fun m ρ _ => frame_reference m ρ trivial,
  trivial, value⟩

end Cert.Proof

end
